-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def preserves_Reference_ReferenceIdeal : Prop :=
  IdealRules.named_const.Statement Cert.ReferenceIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hReference : Cert.Reference.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ quiescent_Reference (hReference := hReference)
    ∧ preserves_Kernel_KernelIdeal
    ∧ preserves_Reference_ReferenceIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bcast_S_S1024x1024 : S_.BroadcastsInDim S1024x1024 (![] : Fin 0 → Fin S1024x1024.rank)
  bcast_S_S1024x4096 : S_.BroadcastsInDim S1024x4096 (![] : Fin 0 → Fin S1024x4096.rank)

variable [Facts]

def fn {F : FTy → Type} [FloatOps F] (main_arg0 : FVec F S1024x1024 .f32) (main_arg1 : FVec F S1024x4096 .f32) (main_arg2 : FVec F S1024x1024 .f32) (main_arg3 : FVec F S1024x1024 .f32) (main_arg4 : FVec F S4096x1024 .f32) : IVec S1024x1024 1 × IVec S1024x4096 1 × IVec S1024x1024 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  (main_v2, main_v5, main_v8)
-- ==== Pre_finite_ReferenceIdeal.lean ====
abbrev S1024x1024 : Shape := ⟨2, ![1024, 1024]⟩
abbrev S1024x4096 : Shape := ⟨2, ![1024, 4096]⟩
abbrev S4096x1024 : Shape := ⟨2, ![4096, 1024]⟩
abbrev S_ : Shape := ⟨0, ![]⟩

class Facts : Prop where
  bcast_S_S1024x1024 : S_.BroadcastsInDim S1024x1024 (![] : Fin 0 → Fin S1024x1024.rank)
  bcast_S_S1024x4096 : S_.BroadcastsInDim S1024x4096 (![] : Fin 0 → Fin S1024x4096.rank)

variable [Facts]

def fn {F : FTy → Type} [FloatOps F] (main_arg0 : FVec F S1024x1024 .f32) (main_arg1 : FVec F S1024x4096 .f32) (main_arg2 : FVec F S1024x4096 .f32) (main_arg3 : FVec F S1024x4096 .f32) (main_arg4 : FVec F S4096x1024 .f32) : IVec S1024x1024 1 × IVec S1024x4096 1 × IVec S1024x4096 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S1024x4096 .f32 := Host.absf main_arg2
  let main_cst_1 : FVec F S_ .f32 := constant S_ .f32 0x7F800000#32
  let main_v7 : FVec F S1024x4096 .f32 := broadcastInDim S1024x4096 ![] bcast_S_S1024x4096 main_cst_1
  let main_v8 : IVec S1024x4096 1 := cmpf .olt main_v6 main_v7
  (main_v2, main_v5, main_v8)
-- ==== Kernel.lean ====
abbrev S1024x1024 : Shape := ⟨2, ![1024, 1024]⟩
abbrev S1024x4096 : Shape := ⟨2, ![1024, 4096]⟩
abbrev S4096x1024 : Shape := ⟨2, ![4096, 1024]⟩
abbrev S2x128x1024 : Shape := ⟨3, ![2, 128, 1024]⟩
abbrev S2 : Shape := ⟨1, ![2]⟩
abbrev S1 : Shape := ⟨1, ![1]⟩
abbrev S_ : Shape := ⟨0, ![]⟩
abbrev S64x1024 : Shape := ⟨2, ![64, 1024]⟩
abbrev S256x1024 : Shape := ⟨2, ![256, 1024]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x1024 : Shape := ⟨2, ![128, 1024]⟩
abbrev S1x128x1024 : Shape := ⟨3, ![1, 128, 1024]⟩

abbrev nBuf : Space → Nat
  | .hbm => 6
  | .vmem => 13
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S2x128x1024, .bf16⟩
  | .local _ .vmem, ⟨12, _⟩ => ⟨S2x128x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 4
abbrev τ : Topo := Topo.v7x

variable {F : FTy → Type} [FloatOps F]

abbrev grid0 : Pipeline.Grid := .none

def k0_off1 (d0 : Dev nD) : Fin 2 → Nat :=
  let c0_i32_6 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v8 : BitVec 32 := Scalar.muli v2 c1024_i32
  ![0, v8.toNat]
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_5 : BitVec 32 := 1024#32
  let v9 : BitVec 32 := Scalar.muli v2 c1024_i32_5
  let c0_i32_8 : BitVec 32 := 0#32
  ![v9.toNat, 0]
def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_10 : BitVec 32 := 1#32
  let v17 : BitVec 32 := Scalar.muli v5 c1_i32_10
  let v18 : BitVec 32 := Scalar.addi c0_i32_11 v17
  v18.toNat
def k0_dev2 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_13 : BitVec 32 := 1#32
  let v19 : BitVec 32 := Scalar.muli v7 c1_i32_13
  let v20 : BitVec 32 := Scalar.addi c0_i32_14 v19
  v20.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v268 : Index := Scalar.indexCast v267
  let c0_195 : Index := 0#32
  ![v268.toNat, 0]
def k0_off4 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v274 : Index := Scalar.indexCast v267
  let c0_199 : Index := 0#32
  ![v274.toNat, 0]
def k0_off5 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v294 : Index := Scalar.indexCast v267
  let c128_206 : Index := 128#32
  ![v294.toNat, 128]
def k0_off6 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v314 : Index := Scalar.indexCast v267
  let c256_213 : Index := 256#32
  ![v314.toNat, 256]
def k0_off7 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v334 : Index := Scalar.indexCast v267
  let c384_220 : Index := 384#32
  ![v334.toNat, 384]
def k0_off8 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v354 : Index := Scalar.indexCast v267
  let c512_227 : Index := 512#32
  ![v354.toNat, 512]
def k0_off9 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v374 : Index := Scalar.indexCast v267
  let c640_234 : Index := 640#32
  ![v374.toNat, 640]
def k0_off10 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v394 : Index := Scalar.indexCast v267
  let c768_241 : Index := 768#32
  ![v394.toNat, 768]
def k0_off11 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32 : BitVec 32 := 256#32
  let v267 : BitVec 32 := Scalar.muli v2 c256_i32
  let v414 : Index := Scalar.indexCast v267
  let c896_248 : Index := 896#32
  ![v414.toNat, 896]
def k0_off12 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_260 : BitVec 32 := 256#32
  let v442 : BitVec 32 := Scalar.muli v2 c256_i32_260
  let v443 : Index := Scalar.indexCast v442
  let c0_261 : Index := 0#32
  ![v443.toNat, 0]
def k0_off13 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_265 : BitVec 32 := 256#32
  let v449 : BitVec 32 := Scalar.muli v2 c256_i32_265
  let c128_i32 : BitVec 32 := 128#32
  let v450 : BitVec 32 := Scalar.addi v449 c128_i32
  let v451 : Index := Scalar.indexCast v450
  let c0_266 : Index := 0#32
  ![v451.toNat, 0]
def k0_dev3 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_274 : BitVec 32 := 1#32
  let v457 : BitVec 32 := Scalar.muli v7 c1_i32_274
  let v458 : BitVec 32 := Scalar.addi c0_i32_275 v457
  v458.toNat
def k0_dev4 (d0 : Dev nD) : Nat :=
  let c0_i32_285 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_284 : BitVec 32 := 1#32
  let v467 : BitVec 32 := Scalar.muli v5 c1_i32_284
  let v468 : BitVec 32 := Scalar.addi c0_i32_285 v467
  v468.toNat
def k0_off14 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v480 : Index := Scalar.indexCast v479
  let c0_293 : Index := 0#32
  ![v480.toNat, 0]
def k0_off15 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v486 : Index := Scalar.indexCast v479
  let c0_298 : Index := 0#32
  ![v486.toNat, 0]
def k0_off16 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v506 : Index := Scalar.indexCast v479
  let c128_305 : Index := 128#32
  ![v506.toNat, 128]
def k0_off17 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v526 : Index := Scalar.indexCast v479
  let c256_312 : Index := 256#32
  ![v526.toNat, 256]
def k0_off18 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v546 : Index := Scalar.indexCast v479
  let c384_319 : Index := 384#32
  ![v546.toNat, 384]
def k0_off19 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v566 : Index := Scalar.indexCast v479
  let c512_326 : Index := 512#32
  ![v566.toNat, 512]
def k0_off20 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v586 : Index := Scalar.indexCast v479
  let c640_333 : Index := 640#32
  ![v586.toNat, 640]
def k0_off21 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v606 : Index := Scalar.indexCast v479
  let c768_340 : Index := 768#32
  ![v606.toNat, 768]
def k0_off22 (d0 : Dev nD) (c1_i32_290 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v477 : BitVec 32 := Scalar.addi v2 c1_i32_290
  let c4_i32_291 : BitVec 32 := 4#32
  let v478 : BitVec 32 := Scalar.remsi v477 c4_i32_291
  let c256_i32_292 : BitVec 32 := 256#32
  let v479 : BitVec 32 := Scalar.muli v478 c256_i32_292
  let v626 : Index := Scalar.indexCast v479
  let c896_347 : Index := 896#32
  ![v626.toNat, 896]
def k0_off23 (d0 : Dev nD) (c0_i32_465 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v859 : BitVec 32 := Scalar.subi v2 c0_i32_465
  let c1_i32_466 : BitVec 32 := 1#32
  let v860 : BitVec 32 := Scalar.subi v859 c1_i32_466
  let c8_i32 : BitVec 32 := 8#32
  let v861 : BitVec 32 := Scalar.addi v860 c8_i32
  let c4_i32_467 : BitVec 32 := 4#32
  let v862 : BitVec 32 := Scalar.remsi v861 c4_i32_467
  let c256_i32_473 : BitVec 32 := 256#32
  let v869 : BitVec 32 := Scalar.muli v862 c256_i32_473
  let v870 : Index := Scalar.indexCast v869
  let c0_474 : Index := 0#32
  ![v870.toNat, 0]
def k0_off24 (d0 : Dev nD) (c0_i32_468 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v863 : BitVec 32 := Scalar.addi v2 c0_i32_468
  let c1_i32_469 : BitVec 32 := 1#32
  let v864 : BitVec 32 := Scalar.addi v863 c1_i32_469
  let c4_i32_470 : BitVec 32 := 4#32
  let v865 : BitVec 32 := Scalar.remsi v864 c4_i32_470
  let c256_i32_481 : BitVec 32 := 256#32
  let v880 : BitVec 32 := Scalar.muli v865 c256_i32_481
  let c128_i32_482 : BitVec 32 := 128#32
  let v881 : BitVec 32 := Scalar.addi v880 c128_i32_482
  let v882 : Index := Scalar.indexCast v881
  let c0_483 : Index := 0#32
  ![v882.toNat, 0]
def k0_dev5 (d0 : Dev nD) : Nat :=
  let c0_i32_489 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_488 : BitVec 32 := 1#32
  let v889 : BitVec 32 := Scalar.muli v5 c1_i32_488
  let v890 : BitVec 32 := Scalar.addi c0_i32_489 v889
  v890.toNat
def k0_dev6 (d0 : Dev nD) : Nat :=
  let c0_i32_492 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_491 : BitVec 32 := 1#32
  let v891 : BitVec 32 := Scalar.muli v7 c1_i32_491
  let v892 : BitVec 32 := Scalar.addi c0_i32_492 v891
  v892.toNat
def k0_dev7 (d0 : Dev nD) : Nat :=
  let c0_i32_500 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_499 : BitVec 32 := 1#32
  let v893 : BitVec 32 := Scalar.muli v7 c1_i32_499
  let v894 : BitVec 32 := Scalar.addi c0_i32_500 v893
  v894.toNat
def k0_dev8 (d0 : Dev nD) : Nat :=
  let c0_i32_510 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_509 : BitVec 32 := 1#32
  let v903 : BitVec 32 := Scalar.muli v5 c1_i32_509
  let v904 : BitVec 32 := Scalar.addi c0_i32_510 v903
  v904.toNat
def k0_dev9 (d0 : Dev nD) : Nat :=
  let c0_i32_648 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_647 : BitVec 32 := 1#32
  let v1148 : BitVec 32 := Scalar.muli v5 c1_i32_647
  let v1149 : BitVec 32 := Scalar.addi c0_i32_648 v1148
  v1149.toNat
def k0_dev10 (d0 : Dev nD) : Nat :=
  let c0_i32_651 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_650 : BitVec 32 := 1#32
  let v1150 : BitVec 32 := Scalar.muli v7 c1_i32_650
  let v1151 : BitVec 32 := Scalar.addi c0_i32_651 v1150
  v1151.toNat
def k0_dev11 (d0 : Dev nD) : Nat :=
  let c0_i32_659 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_658 : BitVec 32 := 1#32
  let v1152 : BitVec 32 := Scalar.muli v7 c1_i32_658
  let v1153 : BitVec 32 := Scalar.addi c0_i32_659 v1152
  v1153.toNat
def k0_dev12 (d0 : Dev nD) : Nat :=
  let c0_i32_669 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_668 : BitVec 32 := 1#32
  let v1162 : BitVec 32 := Scalar.muli v5 c1_i32_668
  let v1163 : BitVec 32 := Scalar.addi c0_i32_669 v1162
  v1163.toNat
def k0_off25 (d0 : Dev nD) (c1_i32_736 : BitVec 32) (c0_i32_742 : BitVec 32) (c0_i32_743 : BitVec 32) : Fin 2 → Nat :=
  let c4_i32_741 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1230 : BitVec 32 := Scalar.addi v2 c1_i32_736
  let c4_i32_737 : BitVec 32 := 4#32
  let v1231 : BitVec 32 := Scalar.remsi v1230 c4_i32_737
  let v1234 : BitVec 32 := Scalar.muli c4_i32_741 v1231
  let v1235 : BitVec 32 := Scalar.addi v1234 c0_i32_742
  let v1237 : BitVec 32 := Scalar.addi v1235 c0_i32_743
  let c4_i32_744 : BitVec 32 := 4#32
  let c0_i32_745 : BitVec 32 := 0#32
  let v1238 : BitVec 1 := Scalar.cmpi .eq c4_i32_744 c0_i32_745
  let c1_i32_746 : BitVec 32 := 1#32
  let v1239 : BitVec 32 := Scalar.select v1238 c1_i32_746 c4_i32_744
  let v1240 : BitVec 32 := Scalar.remsi v1237 v1239
  let c0_i32_748 : BitVec 32 := 0#32
  let v1242 : BitVec 1 := Scalar.cmpi .slt v1240 c0_i32_748
  let c0_i32_749 : BitVec 32 := 0#32
  let v1243 : BitVec 1 := Scalar.cmpi .slt v1239 c0_i32_749
  let v1244 : BitVec 1 := Scalar.xori v1242 v1243
  let c0_i32_747 : BitVec 32 := 0#32
  let v1241 : BitVec 1 := Scalar.cmpi .ne v1240 c0_i32_747
  let v1245 : BitVec 1 := Scalar.andi v1244 v1241
  let v1246 : BitVec 32 := Scalar.addi v1240 v1239
  let v1247 : BitVec 32 := Scalar.select v1245 v1246 v1240
  let c4_i32_750 : BitVec 32 := 4#32
  let v1248 : BitVec 32 := Scalar.muli v1247 c4_i32_750
  let c0_i32_752 : BitVec 32 := 0#32
  let v1250 : BitVec 1 := Scalar.cmpi .sgt v1237 c0_i32_752
  let v1251 : BitVec 32 := Scalar.extui v1250
  let c0_i32_753 : BitVec 32 := 0#32
  let v1252 : BitVec 1 := Scalar.cmpi .slt v1237 c0_i32_753
  let v1253 : BitVec 32 := Scalar.extui v1252
  let v1254 : BitVec 32 := Scalar.subi v1251 v1253
  let c4_i32_751 : BitVec 32 := 4#32
  let c0_i32_754 : BitVec 32 := 0#32
  let v1255 : BitVec 1 := Scalar.cmpi .sgt c4_i32_751 c0_i32_754
  let v1256 : BitVec 32 := Scalar.extui v1255
  let c0_i32_755 : BitVec 32 := 0#32
  let v1257 : BitVec 1 := Scalar.cmpi .slt c4_i32_751 c0_i32_755
  let v1258 : BitVec 32 := Scalar.extui v1257
  let v1259 : BitVec 32 := Scalar.subi v1256 v1258
  let v1260 : BitVec 1 := Scalar.cmpi .ne v1254 v1259
  let v1261 : BitVec 32 := Scalar.remsi v1237 c4_i32_751
  let c0_i32_756 : BitVec 32 := 0#32
  let v1262 : BitVec 1 := Scalar.cmpi .ne v1261 c0_i32_756
  let v1263 : BitVec 1 := Scalar.andi v1260 v1262
  let v1249 : BitVec 32 := Scalar.divsi v1237 c4_i32_751
  let c1_i32_757 : BitVec 32 := 1#32
  let v1264 : BitVec 32 := Scalar.subi v1249 c1_i32_757
  let v1265 : BitVec 32 := Scalar.select v1263 v1264 v1249
  let v1266 : BitVec 32 := Scalar.addi v1248 v1265
  let c64_i32 : BitVec 32 := 64#32
  let v1267 : BitVec 32 := Scalar.muli v1266 c64_i32
  let v1269 : Index := Scalar.indexCast v1267
  let c0_758 : Index := 0#32
  ![v1269.toNat, 0]
def k0_off25_at (r : Fin 8) : BitVec 32 × BitVec 32 × BitVec 32 :=
  if r.val < 4 then
    if r.val < 2 then
      if r.val < 1 then
        (1#32, 0#32, 0#32)
      else
        (1#32, 0#32, 1#32)
    else
      if r.val < 3 then
        (0#32, 2#32, 0#32)
      else
        (0#32, 2#32, 1#32)
  else
    if r.val < 6 then
      if r.val < 5 then
        (1#32, 2#32, 0#32)
      else
        (1#32, 2#32, 1#32)
    else
      if r.val < 7 then
        (2#32, 2#32, 0#32)
      else
        (2#32, 2#32, 1#32)
def k0_off26 (d0 : Dev nD) (c0_i32_784 : BitVec 32) : Fin 2 → Nat :=
  let c4_i32_782 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_776 : BitVec 32 := 4#32
  let v1305 : BitVec 32 := Scalar.addi v2 c4_i32_776
  let c1_i32_777 : BitVec 32 := 1#32
  let v1306 : BitVec 32 := Scalar.subi v1305 c1_i32_777
  let c4_i32_778 : BitVec 32 := 4#32
  let v1307 : BitVec 32 := Scalar.remsi v1306 c4_i32_778
  let v1310 : BitVec 32 := Scalar.muli c4_i32_782 v1307
  let c2_i32_783 : BitVec 32 := 2#32
  let v1311 : BitVec 32 := Scalar.addi v1310 c2_i32_783
  let v1313 : BitVec 32 := Scalar.addi v1311 c0_i32_784
  let c4_i32_785 : BitVec 32 := 4#32
  let c0_i32_786 : BitVec 32 := 0#32
  let v1314 : BitVec 1 := Scalar.cmpi .eq c4_i32_785 c0_i32_786
  let c1_i32_787 : BitVec 32 := 1#32
  let v1315 : BitVec 32 := Scalar.select v1314 c1_i32_787 c4_i32_785
  let v1316 : BitVec 32 := Scalar.remsi v1313 v1315
  let c0_i32_789 : BitVec 32 := 0#32
  let v1318 : BitVec 1 := Scalar.cmpi .slt v1316 c0_i32_789
  let c0_i32_790 : BitVec 32 := 0#32
  let v1319 : BitVec 1 := Scalar.cmpi .slt v1315 c0_i32_790
  let v1320 : BitVec 1 := Scalar.xori v1318 v1319
  let c0_i32_788 : BitVec 32 := 0#32
  let v1317 : BitVec 1 := Scalar.cmpi .ne v1316 c0_i32_788
  let v1321 : BitVec 1 := Scalar.andi v1320 v1317
  let v1322 : BitVec 32 := Scalar.addi v1316 v1315
  let v1323 : BitVec 32 := Scalar.select v1321 v1322 v1316
  let c4_i32_791 : BitVec 32 := 4#32
  let v1324 : BitVec 32 := Scalar.muli v1323 c4_i32_791
  let c0_i32_793 : BitVec 32 := 0#32
  let v1326 : BitVec 1 := Scalar.cmpi .sgt v1313 c0_i32_793
  let v1327 : BitVec 32 := Scalar.extui v1326
  let c0_i32_794 : BitVec 32 := 0#32
  let v1328 : BitVec 1 := Scalar.cmpi .slt v1313 c0_i32_794
  let v1329 : BitVec 32 := Scalar.extui v1328
  let v1330 : BitVec 32 := Scalar.subi v1327 v1329
  let c4_i32_792 : BitVec 32 := 4#32
  let c0_i32_795 : BitVec 32 := 0#32
  let v1331 : BitVec 1 := Scalar.cmpi .sgt c4_i32_792 c0_i32_795
  let v1332 : BitVec 32 := Scalar.extui v1331
  let c0_i32_796 : BitVec 32 := 0#32
  let v1333 : BitVec 1 := Scalar.cmpi .slt c4_i32_792 c0_i32_796
  let v1334 : BitVec 32 := Scalar.extui v1333
  let v1335 : BitVec 32 := Scalar.subi v1332 v1334
  let v1336 : BitVec 1 := Scalar.cmpi .ne v1330 v1335
  let v1337 : BitVec 32 := Scalar.remsi v1313 c4_i32_792
  let c0_i32_797 : BitVec 32 := 0#32
  let v1338 : BitVec 1 := Scalar.cmpi .ne v1337 c0_i32_797
  let v1339 : BitVec 1 := Scalar.andi v1336 v1338
  let v1325 : BitVec 32 := Scalar.divsi v1313 c4_i32_792
  let c1_i32_798 : BitVec 32 := 1#32
  let v1340 : BitVec 32 := Scalar.subi v1325 c1_i32_798
  let v1341 : BitVec 32 := Scalar.select v1339 v1340 v1325
  let v1342 : BitVec 32 := Scalar.addi v1324 v1341
  let c64_i32_799 : BitVec 32 := 64#32
  let v1343 : BitVec 32 := Scalar.muli v1342 c64_i32_799
  let v1345 : Index := Scalar.indexCast v1343
  let c0_800 : Index := 0#32
  ![v1345.toNat, 0]
def k0_dev13 (d0 : Dev nD) : Nat :=
  let c0_i32_820 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_819 : BitVec 32 := 1#32
  let v1381 : BitVec 32 := Scalar.muli v5 c1_i32_819
  let v1382 : BitVec 32 := Scalar.addi c0_i32_820 v1381
  v1382.toNat
def k0_dev14 (d0 : Dev nD) : Nat :=
  let c0_i32_823 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_822 : BitVec 32 := 1#32
  let v1383 : BitVec 32 := Scalar.muli v7 c1_i32_822
  let v1384 : BitVec 32 := Scalar.addi c0_i32_823 v1383
  v1384.toNat
def k0_dev15 (d0 : Dev nD) : Nat :=
  let c0_i32_831 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_830 : BitVec 32 := 1#32
  let v1385 : BitVec 32 := Scalar.muli v7 c1_i32_830
  let v1386 : BitVec 32 := Scalar.addi c0_i32_831 v1385
  v1386.toNat
def k0_dev16 (d0 : Dev nD) : Nat :=
  let c0_i32_841 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_840 : BitVec 32 := 1#32
  let v1395 : BitVec 32 := Scalar.muli v5 c1_i32_840
  let v1396 : BitVec 32 := Scalar.addi c0_i32_841 v1395
  v1396.toNat
def k0_off27 (d0 : Dev nD) (c0_i32_884 : BitVec 32) (c0_i32_894 : BitVec 32) : Fin 2 → Nat :=
  let c4_i32_892 : BitVec 32 := 4#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v1433 : BitVec 32 := Scalar.subi v2 c0_i32_884
  let c4_i32_885 : BitVec 32 := 4#32
  let v1434 : BitVec 32 := Scalar.addi v1433 c4_i32_885
  let c4_i32_886 : BitVec 32 := 4#32
  let v1435 : BitVec 32 := Scalar.remsi v1434 c4_i32_886
  let v1440 : BitVec 32 := Scalar.muli c4_i32_892 v1435
  let c0_i32_893 : BitVec 32 := 0#32
  let v1441 : BitVec 32 := Scalar.addi v1440 c0_i32_893
  let v1443 : BitVec 32 := Scalar.addi v1441 c0_i32_894
  let c4_i32_895 : BitVec 32 := 4#32
  let c0_i32_896 : BitVec 32 := 0#32
  let v1444 : BitVec 1 := Scalar.cmpi .eq c4_i32_895 c0_i32_896
  let c1_i32_897 : BitVec 32 := 1#32
  let v1445 : BitVec 32 := Scalar.select v1444 c1_i32_897 c4_i32_895
  let v1446 : BitVec 32 := Scalar.remsi v1443 v1445
  let c0_i32_899 : BitVec 32 := 0#32
  let v1448 : BitVec 1 := Scalar.cmpi .slt v1446 c0_i32_899
  let c0_i32_900 : BitVec 32 := 0#32
  let v1449 : BitVec 1 := Scalar.cmpi .slt v1445 c0_i32_900
  let v1450 : BitVec 1 := Scalar.xori v1448 v1449
  let c0_i32_898 : BitVec 32 := 0#32
  let v1447 : BitVec 1 := Scalar.cmpi .ne v1446 c0_i32_898
  let v1451 : BitVec 1 := Scalar.andi v1450 v1447
  let v1452 : BitVec 32 := Scalar.addi v1446 v1445
  let v1453 : BitVec 32 := Scalar.select v1451 v1452 v1446
  let c4_i32_901 : BitVec 32 := 4#32
  let v1454 : BitVec 32 := Scalar.muli v1453 c4_i32_901
  let c0_i32_903 : BitVec 32 := 0#32
  let v1456 : BitVec 1 := Scalar.cmpi .sgt v1443 c0_i32_903
  let v1457 : BitVec 32 := Scalar.extui v1456
  let c0_i32_904 : BitVec 32 := 0#32
  let v1458 : BitVec 1 := Scalar.cmpi .slt v1443 c0_i32_904
  let v1459 : BitVec 32 := Scalar.extui v1458
  let v1460 : BitVec 32 := Scalar.subi v1457 v1459
  let c4_i32_902 : BitVec 32 := 4#32
  let c0_i32_905 : BitVec 32 := 0#32
  let v1461 : BitVec 1 := Scalar.cmpi .sgt c4_i32_902 c0_i32_905
  let v1462 : BitVec 32 := Scalar.extui v1461
  let c0_i32_906 : BitVec 32 := 0#32
  let v1463 : BitVec 1 := Scalar.cmpi .slt c4_i32_902 c0_i32_906
  let v1464 : BitVec 32 := Scalar.extui v1463
  let v1465 : BitVec 32 := Scalar.subi v1462 v1464
  let v1466 : BitVec 1 := Scalar.cmpi .ne v1460 v1465
  let v1467 : BitVec 32 := Scalar.remsi v1443 c4_i32_902
  let c0_i32_907 : BitVec 32 := 0#32
  let v1468 : BitVec 1 := Scalar.cmpi .ne v1467 c0_i32_907
  let v1469 : BitVec 1 := Scalar.andi v1466 v1468
  let v1455 : BitVec 32 := Scalar.divsi v1443 c4_i32_902
  let c1_i32_908 : BitVec 32 := 1#32
  let v1470 : BitVec 32 := Scalar.subi v1455 c1_i32_908
  let v1471 : BitVec 32 := Scalar.select v1469 v1470 v1455
  let v1472 : BitVec 32 := Scalar.addi v1454 v1471
  let c64_i32_909 : BitVec 32 := 64#32
  let v1473 : BitVec 32 := Scalar.muli v1472 c64_i32_909
  let v1475 : Index := Scalar.indexCast v1473
  let c0_910 : Index := 0#32
  ![v1475.toNat, 0]
def k0_dev17 (d0 : Dev nD) : Nat :=
  let c0_i32_969 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_968 : BitVec 32 := 1#32
  let v1584 : BitVec 32 := Scalar.muli v5 c1_i32_968
  let v1585 : BitVec 32 := Scalar.addi c0_i32_969 v1584
  v1585.toNat
def k0_dev18 (d0 : Dev nD) : Nat :=
  let c0_i32_972 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_971 : BitVec 32 := 1#32
  let v1586 : BitVec 32 := Scalar.muli v7 c1_i32_971
  let v1587 : BitVec 32 := Scalar.addi c0_i32_972 v1586
  v1587.toNat
def k0_dev19 (d0 : Dev nD) : Nat :=
  let c0_i32_980 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_979 : BitVec 32 := 1#32
  let v1588 : BitVec 32 := Scalar.muli v7 c1_i32_979
  let v1589 : BitVec 32 := Scalar.addi c0_i32_980 v1588
  v1589.toNat
def k0_dev20 (d0 : Dev nD) : Nat :=
  let c0_i32_990 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_989 : BitVec 32 := 1#32
  let v1598 : BitVec 32 := Scalar.muli v5 c1_i32_989
  let v1599 : BitVec 32 := Scalar.addi c0_i32_990 v1598
  v1599.toNat
def k0_dev21 (d0 : Dev nD) : Nat :=
  let c0_i32_1118 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1117 : BitVec 32 := 1#32
  let v1787 : BitVec 32 := Scalar.muli v5 c1_i32_1117
  let v1788 : BitVec 32 := Scalar.addi c0_i32_1118 v1787
  v1788.toNat
def k0_dev22 (d0 : Dev nD) : Nat :=
  let c0_i32_1121 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1120 : BitVec 32 := 1#32
  let v1789 : BitVec 32 := Scalar.muli v7 c1_i32_1120
  let v1790 : BitVec 32 := Scalar.addi c0_i32_1121 v1789
  v1790.toNat
def k0_dev23 (d0 : Dev nD) : Nat :=
  let c0_i32_1129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1128 : BitVec 32 := 1#32
  let v1791 : BitVec 32 := Scalar.muli v7 c1_i32_1128
  let v1792 : BitVec 32 := Scalar.addi c0_i32_1129 v1791
  v1792.toNat
def k0_dev24 (d0 : Dev nD) : Nat :=
  let c0_i32_1139 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1138 : BitVec 32 := 1#32
  let v1801 : BitVec 32 := Scalar.muli v5 c1_i32_1138
  let v1802 : BitVec 32 := Scalar.addi c0_i32_1139 v1801
  v1802.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
variable {F : FTy → Type} [FloatOps F] [Named F]
def κ : String → Option EReal := fun
  | "mask" => some ⊥
  | _ => none
-- ==== Reference.lean ====
abbrev S1024x1024 : Shape := ⟨2, ![1024, 1024]⟩
abbrev S1024x4096 : Shape := ⟨2, ![1024, 4096]⟩
abbrev S4096x1024 : Shape := ⟨2, ![4096, 1024]⟩
abbrev S1x1024x32x128 : Shape := ⟨4, ![1, 1024, 32, 128]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1x32x1024x1024 : Shape := ⟨4, ![1, 32, 1024, 1024]⟩
abbrev S32x1024x1024 : Shape := ⟨3, ![32, 1024, 1024]⟩
abbrev S1x32x1024 : Shape := ⟨3, ![1, 32, 1024]⟩
abbrev S1x32x1024x1 : Shape := ⟨4, ![1, 32, 1024, 1]⟩
abbrev S1x1x1024x1 : Shape := ⟨4, ![1, 1, 1024, 1]⟩
abbrev S1x32x128x1024 : Shape := ⟨4, ![1, 32, 128, 1024]⟩

abbrev nBuf : Space → Nat
  | .hbm => 70
  | .vmem => 3
  | .smem => 0
  | _ => 0

abbrev bufTy : (tb : Table) → Fin (tcTables nBuf tb) → BufTy
  | .hbm, ⟨0, _⟩ => ⟨S1024x1024, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S4096x1024, .f32⟩
  | .hbm, ⟨5, _⟩ => ⟨S1x1024x32x128, .f32⟩
  | .hbm, ⟨6, _⟩ => ⟨S1x1024x32x128, .f32⟩
  | .hbm, ⟨7, _⟩ => ⟨S1024x4096, .f32⟩
  | .hbm, ⟨8, _⟩ => ⟨S1x1024x32x128, .f32⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024x1, .i32⟩
  | .hbm, ⟨14, _⟩ => ⟨S1024, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S1x1024, .i32⟩
  | .hbm, ⟨19, _⟩ => ⟨S1024x1024, .i32⟩
  | .hbm, ⟨20, _⟩ => ⟨S1024x1024, .i32⟩
  | .hbm, ⟨21, _⟩ => ⟨S1024x1024, .i1⟩
  | .hbm, ⟨22, _⟩ => ⟨S_, .i32⟩
  | .hbm, ⟨23, _⟩ => ⟨S1x1024, .i32⟩
  | .hbm, ⟨24, _⟩ => ⟨S1x1024, .i32⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1024, .i32⟩
  | .hbm, ⟨29, _⟩ => ⟨S1024x1024, .i32⟩
  | .hbm, ⟨30, _⟩ => ⟨S1024x1024, .i1⟩
  | .hbm, ⟨31, _⟩ => ⟨S1024x1024, .i1⟩
  | .hbm, ⟨32, _⟩ => ⟨S1x32x1024x1024, .f32⟩
  | .hbm, ⟨33, _⟩ => ⟨S_, .f32⟩
  | .hbm, ⟨34, _⟩ => ⟨S1x32x1024x1024, .f32⟩
  | .hbm, ⟨35, _⟩ => ⟨S1x32x1024x1024, .f32⟩
  | .hbm, ⟨36, _⟩ => ⟨S1024x1024, .i32⟩
  | .hbm, ⟨37, _⟩ => ⟨S32x1024x1024, .i32⟩
  | .hbm, ⟨38, _⟩ => ⟨S32x1024x1024, .f32⟩
  | .hbm, ⟨39, _⟩ => ⟨S32x1024x1024, .f32⟩
  | .hbm, ⟨40, _⟩ => ⟨S1x32x1024x1024, .f32⟩
  | .hbm, ⟨41, _⟩ => ⟨S_, .f32⟩
  | .hbm, ⟨42, _⟩ => ⟨S1x32x1024, .f32⟩
  | .hbm, ⟨43, _⟩ => ⟨S1x32x1024x1, .f32⟩
  | .hbm, ⟨44, _⟩ => ⟨S1x32x1024x1024, .f32⟩
  | .hbm, ⟨45, _⟩ => ⟨S1x32x1024x1024, .f32⟩
  | .hbm, ⟨46, _⟩ => ⟨S1x32x1024x1024, .f32⟩
  | .hbm, ⟨47, _⟩ => ⟨S_, .i1⟩
  | .hbm, ⟨48, _⟩ => ⟨S1024, .i1⟩
  | .hbm, ⟨49, _⟩ => ⟨S1x1x1024x1, .i1⟩
  | .hbm, ⟨50, _⟩ => ⟨S_, .f32⟩
  | .hbm, ⟨51, _⟩ => ⟨S1x32x1024, .f32⟩
  | .hbm, ⟨52, _⟩ => ⟨S1x32x1024x1, .f32⟩
  | .hbm, ⟨53, _⟩ => ⟨S_, .f32⟩
  | .hbm, ⟨54, _⟩ => ⟨S_, .f32⟩
  | .hbm, ⟨55, _⟩ => ⟨S1x32x1024x1, .i1⟩
  | .hbm, ⟨56, _⟩ => ⟨S1x32x1024x1, .f32⟩
  | .hbm, ⟨57, _⟩ => ⟨S1x32x1024x1, .f32⟩
  | .hbm, ⟨58, _⟩ => ⟨S1x32x1024x1024, .f32⟩
  | .hbm, ⟨59, _⟩ => ⟨S1x32x1024x1024, .f32⟩
  | .hbm, ⟨60, _⟩ => ⟨S1x1x1024x1, .i1⟩
  | .hbm, ⟨61, _⟩ => ⟨S_, .f32⟩
  | .hbm, ⟨62, _⟩ => ⟨S_, .f32⟩
  | .hbm, ⟨63, _⟩ => ⟨S1x32x1024x1024, .i1⟩
  | .hbm, ⟨64, _⟩ => ⟨S1x32x1024x1024, .f32⟩
  | .hbm, ⟨65, _⟩ => ⟨S1x32x1024x1024, .f32⟩
  | .hbm, ⟨66, _⟩ => ⟨S1x32x128x1024, .f32⟩
  | .hbm, ⟨67, _⟩ => ⟨S1x1024x32x128, .f32⟩
  | .hbm, ⟨68, _⟩ => ⟨S1024x4096, .f32⟩
  | .hbm, ⟨69, _⟩ => ⟨S1024x1024, .f32⟩
  | .local _ .vmem, ⟨0, _⟩ => ⟨S32x1024x1024, .i32⟩
  | .local _ .vmem, ⟨1, _⟩ => ⟨S32x1024x1024, .f32⟩
  | .local _ .vmem, ⟨2, _⟩ => ⟨S32x1024x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_1 : Ref sig .tc := ⟨.hbm, 22, rfl⟩
abbrev main_v15 : Ref sig .tc := ⟨.hbm, 23, rfl⟩
abbrev main_v16 : Ref sig .tc := ⟨.hbm, 24, rfl⟩
abbrev main_c_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_call0_v2 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S32x1024x1024 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Shape.lean ====
/- The kernel's body, written again as a short program.

The printed body is one straight line of a few hundred effects. Here it is put together from a handful of pieces —
the copy of one block of rows, one attention head, one class of rows, one step of the two rings, the store of one
chunk — each over the offsets it runs at; `body_eq` says that the printed body is that program. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Tactic

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open Idealize.SL.Sem

variable {F : FTy → Type} [FloatOps F]

/-- Programs of one core of this kernel. -/
abbrev P (F : FTy → Type) : Type 1 := Prog (TpuEff nD τ sig (Elt F) Λ₀ .tc) PUnit

/-! ## The buffers -/

abbrev xM : Memref sig .tc .vmem S1024x1024 .f32 := Memref.whole cc0_stg0_0
abbrev kM : Memref sig .tc .vmem S1024x1024 .f32 := Memref.whole cc0_stg1_0
abbrev vM : Memref sig .tc .vmem S1024x1024 .f32 := Memref.whole cc0_stg2_0
abbrev oM : Memref sig .tc .vmem S1024x1024 .f32 := Memref.whole cc0_stg3_0
abbrev wqH : Memref sig .tc .hbm S1024x4096 .f32 := Memref.whole main_arg1
abbrev woH : Memref sig .tc .hbm S4096x1024 .f32 := Memref.whole main_arg4
abbrev wqM : Memref sig .tc .vmem S1024x1024 .f32 := Memref.whole cc0_scratch0
abbrev woM : Memref sig .tc .vmem S1024x1024 .f32 := Memref.whole cc0_scratch1
abbrev xpM : Memref sig .tc .vmem S1024x1024 .f32 := Memref.whole cc0_scratch2
abbrev kpM : Memref sig .tc .vmem S1024x1024 .f32 := Memref.whole cc0_scratch3
abbrev vpM : Memref sig .tc .vmem S1024x1024 .f32 := Memref.whole cc0_scratch4
abbrev ctxM : Memref sig .tc .vmem S1024x1024 .f32 := Memref.whole cc0_scratch5
abbrev partM : Memref sig .tc .vmem S1024x1024 .f32 := Memref.whole cc0_scratch6
abbrev aM : Memref sig .tc .vmem S2x128x1024 .bf16 := Memref.whole cc0_scratch7
abbrev bM : Memref sig .tc .vmem S2x128x1024 .bf16 := Memref.whole cc0_scratch8

theorem haM : (aM : Memref sig .tc .vmem S2x128x1024 .bf16).IsWhole := Memref.isWhole_whole _
theorem hbM : (bM : Memref sig .tc .vmem S2x128x1024 .bf16).IsWhole := Memref.isWhole_whole _

/-! ## The semaphores -/

abbrev barS : Sem sig := barrier0
/-- The semaphore `i` of a pair. -/
abbrev semOf (a : DmaSems sig S2) (i : Fin 2) (h : ∀ b, (![i.val] : Fin 1 → Nat) b + S1.size b ≤ S2.size b) : DmaSem sig :=
  ((a.slice (Rect.unit (s := S2) ![i.val] S1.size h)).squeeze S_ squeezes_S1_S_).sem

theorem inbS (i : Fin 2) : ∀ b, (![i.val] : Fin 1 → Nat) b + S1.size b ≤ S2.size b := by
  fin_cases i
  · exact inb_S2_S1_0
  · exact inb_S2_S1_1

def cpS (i : Fin 2) : DmaSem sig := ⟨4 + i.val, by have := i.isLt; show 4 + i.val < 14; omega⟩
def asS (i : Fin 2) : DmaSem sig := ⟨6 + i.val, by have := i.isLt; show 6 + i.val < 14; omega⟩
def arS (i : Fin 2) : DmaSem sig := ⟨8 + i.val, by have := i.isLt; show 8 + i.val < 14; omega⟩
def bsS (i : Fin 2) : DmaSem sig := ⟨10 + i.val, by have := i.isLt; show 10 + i.val < 14; omega⟩
def brS (i : Fin 2) : DmaSem sig := ⟨12 + i.val, by have := i.isLt; show 12 + i.val < 14; omega⟩

/-! ## The slots of the two rings -/

theorem inbSlot (i : Fin 2) : ∀ b, (![i.val, 0, 0] : Fin 3 → Nat) b + S1x128x1024.size b ≤ S2x128x1024.size b := by
  fin_cases i
  · exact inb_S2x128x1024_S1x128x1024_0_0_0
  · exact inb_S2x128x1024_S1x128x1024_1_0_0

abbrev slotR (i : Fin 2) : Rect S2x128x1024 := Rect.unit (s := S2x128x1024) ![i.val, 0, 0] S1x128x1024.size (inbSlot i)

/-- Slot `i` of a pair, as a transfer names it. -/
abbrev slotM (m : Memref sig .tc .vmem S2x128x1024 .bf16) (i : Fin 2) : Memref sig .tc .vmem S128x1024 .bf16 :=
  (m.slice (slotR i) (fun _ => rfl)).squeeze S128x1024 squeezes_S1x128x1024_S128x1024

theorem slot_exact {m : Memref sig .tc .vmem S2x128x1024 .bf16} (hm : m.IsWhole) (i : Fin 2) : (slotM m i).view.WordExact := by
  fin_cases i
  · exact (hm.wordExact_slice rfl _ wordsbf16_S2x128x1024_S1x128x1024_0_0_0).reshape _ _
  · exact (hm.wordExact_slice rfl _ wordsbf16_S2x128x1024_S1x128x1024_1_0_0).reshape _ _

theorem slot_stores {m : Memref sig .tc .vmem S2x128x1024 .bf16} (hm : m.IsWhole) (i : Fin 2) : (m.access (slotR i)).Stores Finset.univ := by
  fin_cases i
  · exact View.stores_vmem h_S1x128x1024 (hm.storeExact_slice rfl _ packedbf16_S2x128x1024_S1x128x1024_0_0_0) (fun _ => rfl)
  · exact View.stores_vmem h_S1x128x1024 (hm.storeExact_slice rfl _ packedbf16_S2x128x1024_S1x128x1024_1_0_0) (fun _ => rfl)

/-! ## Rectangles of the square buffers -/

abbrev In (sz : Fin 2 → Nat) (o : Fin 2 → Nat) : Prop := ∀ b, o b + sz b ≤ S1024x1024.size b

abbrev rect (s : Fin 2 → Nat) (o : Fin 2 → Nat) (h : In s o) : Rect S1024x1024 := Rect.unit (s := S1024x1024) o s h

/-! ## The pieces -/

/-- Copy 64 rows. -/
def copyP (src dst : Memref sig .tc .vmem S1024x1024 .f32) (o o' : Fin 2 → Nat) (h : In S64x1024.size o) (h' : In S64x1024.size o') : P F := do
  let v : Vec F S64x1024 .f32 ← Prog.lift (.load src (rect S64x1024.size o h).toLoadRect (View.loadsAt_vmem h_S64x1024))
  let _ : Vec F S64x1024 .f32 ← Prog.lift (.load dst (rect S64x1024.size o' h').toLoadRect (View.loadsAt_vmem h_S64x1024))
  Prog.lift (.store dst (rect S64x1024.size o' h')
    (shapeCast S64x1024 (shapeCast S64x1024 v shapeCasts_S64x1024_S64x1024) shapeCasts_S64x1024_S64x1024 : FVec F S64x1024 .f32)
    Finset.univ (View.stores_vmem_bits_univ h_S64x1024 rfl) (.inl rfl))

/-- The original row of the block stored at place `b`. -/
abbrev srcRow (b : Nat) : Nat := 64 * (b % 4 * 4 + b / 4 % 4)
abbrev dstRow (b : Nat) : Nat := 64 * (b % 16)

theorem in64 (n : Nat) (h : n < 16) : In S64x1024.size ![64 * n, 0] := by
  intro b; fin_cases b
  · show 64 * n + 64 ≤ 1024; omega
  · show 0 + 1024 ≤ 1024; omega

theorem src_in (b : Nat) : In S64x1024.size ![srcRow b, 0] := in64 _ (by omega)
theorem dst_in (b : Nat) : In S64x1024.size ![dstRow b, 0] := in64 _ (by omega)

/-- The three copies of block `b`. -/
def perm1 (b : Nat) : P F := do
  copyP xM xpM ![srcRow b, 0] ![dstRow b, 0] (src_in b) (dst_in b)
  copyP kM kpM ![srcRow b, 0] ![dstRow b, 0] (src_in b) (dst_in b)
  copyP vM vpM ![srcRow b, 0] ![dstRow b, 0] (src_in b) (dst_in b)

/-- `f 0; f 1; …; f (n-1)`, ending with the last one. -/
def seqTo (f : Nat → P F) : Nat → Nat → P F
  | 0, i => f i
  | n + 1, i => do f i; seqTo f n (i + 1)

/-- The queries of a class, all heads, scaled. -/
def qOf (xr : FVec F S256x1024 .f32) (wq : FVec F S1024x1024 .f32) : FVec F S256x1024 .f32 :=
  mulf (matmul dot_S256x1024_S1024x1024_S256x1024_1_0_0_1_n_n none xr wq (constant S256x1024 .f32 0x00000000#32))
    (broadcast S256x1024 (Scalar.ofBits .f32 0x3DB504F3#32))

theorem slice_in (h : Nat) (hh : h < 8) : S256x1024.Slices ![0, 128 * h] S256x128 :=
  match h, hh with
  | 0, _ => slices_S256x1024_o0_0_S256x128
  | 1, _ => slices_S256x1024_o0_128_S256x128
  | 2, _ => slices_S256x1024_o0_256_S256x128
  | 3, _ => slices_S256x1024_o0_384_S256x128
  | 4, _ => slices_S256x1024_o0_512_S256x128
  | 5, _ => slices_S256x1024_o0_640_S256x128
  | 6, _ => slices_S256x1024_o0_768_S256x128
  | 7, _ => slices_S256x1024_o0_896_S256x128
  | n + 8, hh => absurd hh (by omega)

/-- The scores of one head less their row maximum, under the exponential. -/
def expOf (q k : FVec F S256x128 .f32) : FVec F S256x256 .f32 :=
  exp (subf (matmul dot_S256x128_S256x128_S256x256_1_1_0_0_n_n none q k (constant S256x256 .f32 0x00000000#32))
    (broadcastTo S256x256 (shapeCast S256x1 (multiReduction .maximumf [1] S256
      (matmul dot_S256x128_S256x128_S256x256_1_1_0_0_n_n none q k (constant S256x256 .f32 0x00000000#32)) 0xFF800000#32 reduces_S256x256_S256 (.inl rfl) rfl)
      shapeCasts_S256_S256x1) broadcasts_S256x1_S256x256))

/-- One head's output. -/
def headOf (q k v : FVec F S256x128 .f32) : FVec F S256x128 .f32 :=
  matmul dot_S256x256_S256x128_S256x128_1_0_0_1_n_n none
    (divf (expOf q k) (broadcastTo S256x256 (shapeCast S256x1 (multiReduction .add [1] S256 (expOf q k) 0x00000000#32 reduces_S256x256_S256 (.inl rfl) rfl)
      shapeCasts_S256_S256x1) broadcasts_S256x1_S256x256)) v (constant S256x128 .f32 0x00000000#32)

/-- One head of one class. -/
def headP (qc : FVec F S256x1024 .f32) (h : Nat) (hh : h < 8) (o : Fin 2 → Nat) (ho : In S256x128.size o) : P F := do
  let k : Vec F S256x128 .f32 ← Prog.lift (.load kpM (rect S256x128.size o ho).toLoadRect (View.loadsAt_vmem h_S256x128))
  let v : Vec F S256x128 .f32 ← Prog.lift (.load vpM (rect S256x128.size o ho).toLoadRect (View.loadsAt_vmem h_S256x128))
  let _ : Vec F S256x128 .f32 ← Prog.lift (.load ctxM (rect S256x128.size o ho).toLoadRect (View.loadsAt_vmem h_S256x128))
  Prog.lift (.store ctxM (rect S256x128.size o ho)
    (shapeCast S256x128 (headOf (extractStridedSlice S256x128 ![0, 128 * h] qc (slice_in h hh)) k v) shapeCasts_S256x128_S256x128 : FVec F S256x128 .f32)
    Finset.univ (View.stores_vmem_bits_univ h_S256x128 rfl) (.inl rfl))

/-- The offsets of a class: its rows, and its rows under each head's columns. -/
structure Offs where
  row : Fin 2 → Nat
  head : Fin 8 → Fin 2 → Nat
  hrow : In S256x1024.size row
  hhead : ∀ h, In S256x128.size (head h)

theorem in_full : In S1024x1024.size ![0, 0] := inb_S1024x1024_S1024x1024_0_0

/-- One class of rows: attention, and the share of the output projection. -/
def classP (o : Offs) : P F := do
  let xr : Vec F S256x1024 .f32 ← Prog.lift (.load xpM (rect S256x1024.size o.row o.hrow).toLoadRect (View.loadsAt_vmem h_S256x1024))
  let wq : Vec F S1024x1024 .f32 ← Prog.lift (.load wqM (rect S1024x1024.size ![0, 0] in_full).toLoadRect (View.loadsAt_vmem h_S1024x1024))
  headP (qOf xr wq) 0 (by decide) (o.head 0) (o.hhead 0)
  headP (qOf xr wq) 1 (by decide) (o.head 1) (o.hhead 1)
  headP (qOf xr wq) 2 (by decide) (o.head 2) (o.hhead 2)
  headP (qOf xr wq) 3 (by decide) (o.head 3) (o.hhead 3)
  headP (qOf xr wq) 4 (by decide) (o.head 4) (o.hhead 4)
  headP (qOf xr wq) 5 (by decide) (o.head 5) (o.hhead 5)
  headP (qOf xr wq) 6 (by decide) (o.head 6) (o.hhead 6)
  headP (qOf xr wq) 7 (by decide) (o.head 7) (o.hhead 7)
  let c : Vec F S256x1024 .f32 ← Prog.lift (.load ctxM (rect S256x1024.size o.row o.hrow).toLoadRect (View.loadsAt_vmem h_S256x1024))
  let wo : Vec F S1024x1024 .f32 ← Prog.lift (.load woM (rect S1024x1024.size ![0, 0] in_full).toLoadRect (View.loadsAt_vmem h_S1024x1024))
  let _ : Vec F S256x1024 .f32 ← Prog.lift (.load partM (rect S256x1024.size o.row o.hrow).toLoadRect (View.loadsAt_vmem h_S256x1024))
  Prog.lift (.store partM (rect S256x1024.size o.row o.hrow)
    (shapeCast S256x1024 (matmul dot_S256x1024_S1024x1024_S256x1024_1_0_0_1_n_n none c wo (constant S256x1024 .f32 0x00000000#32)) shapeCasts_S256x1024_S256x1024 : FVec F S256x1024 .f32)
    Finset.univ (View.stores_vmem_bits_univ h_S256x1024 rfl) (.inl rfl))

/-- The first message of a ring: 128 rows of the device's own class. -/
def initP (m : Memref sig .tc .vmem S2x128x1024 .bf16) (hm : m.IsWhole) (o : Fin 2 → Nat) (ho : In S128x1024.size o) : P F := do
  let p : Vec F S128x1024 .f32 ← Prog.lift (.load partM (rect S128x1024.size o ho).toLoadRect (View.loadsAt_vmem h_S128x1024))
  let _ : Vec F S1x128x1024 .bf16 ← Prog.lift (.load m (slotR 0).toLoadRect (View.loadsAt_vmem h_S1x128x1024))
  Prog.lift (.store m (slotR 0)
    (shapeCast S1x128x1024 (truncf .bf16 p bitsLt_bf16_f32) shapeCasts_S128x1024_S1x128x1024 : FVec F S1x128x1024 .bf16)
    Finset.univ (slot_stores hm 0) (.inl rfl))

/-- Send slot `s` of a ring to slot `r` of the same ring on device `n`. -/
def sendP (m : Memref sig .tc .vmem S2x128x1024 .bf16) (hm : m.IsWhole) (hsc : ∀ i, (slotM m i).view.ref.isScScratch = false)
    (sS rS : Fin 2 → DmaSem sig) (s r : Fin 2) (n : Dev nD) : P F :=
  Prog.lift (.enqueueDma (slotM m s) (.remote (Dev.tc n) (slotM m r) (.dma (sS s)) (hsc r)) (.dma (rS r)) (slot_exact hm s) (slot_exact hm r) ⟨⟨rfl, Or.inl rfl⟩, trivial⟩)

/-- The two waits of a ring's step. -/
def waitP (m : Memref sig .tc .vmem S2x128x1024 .bf16) (hm : m.IsWhole) (sS rS : Fin 2 → DmaSem sig) (s r : Fin 2) : P F := do
  Prog.lift (.waitDma2 (sS s) (slotM m r) (slotM m s) (slot_exact hm r) (slot_exact hm s))
  Prog.lift (.waitDma2 (rS r) (slotM m s) (slotM m r) (slot_exact hm s) (slot_exact hm r))

/-- Add the device's own share to the message that came. -/
def addP (m : Memref sig .tc .vmem S2x128x1024 .bf16) (hm : m.IsWhole) (r : Fin 2) (o : Fin 2 → Nat) (ho : In S128x1024.size o) : P F := do
  let a : Vec F S1x128x1024 .bf16 ← Prog.lift (.load m (slotR r).toLoadRect (View.loadsAt_vmem h_S1x128x1024))
  let p : Vec F S128x1024 .f32 ← Prog.lift (.load partM (rect S128x1024.size o ho).toLoadRect (View.loadsAt_vmem h_S128x1024))
  let _ : Vec F S1x128x1024 .bf16 ← Prog.lift (.load m (slotR r).toLoadRect (View.loadsAt_vmem h_S1x128x1024))
  Prog.lift (.store m (slotR r)
    (shapeCast S1x128x1024 (truncf .bf16 (addf (extf .f32 (shapeCast S128x1024 a shapeCasts_S1x128x1024_S128x1024) bitsLt_bf16_f32) p) bitsLt_bf16_f32)
      shapeCasts_S128x1024_S1x128x1024 : FVec F S1x128x1024 .bf16)
    Finset.univ (slot_stores hm r) (.inl rfl))

theorem slices_64 (j : Nat) (hj : j < 2) : S128x1024.Slices ![64 * j, 0] S64x1024 :=
  match j, hj with
  | 0, _ => slices_S128x1024_o0_0_S64x1024
  | 1, _ => slices_S128x1024_o64_0_S64x1024
  | n + 2, hj => absurd hj (by omega)

/-- Store a finished chunk: two blocks of 64 rows. -/
def storeP (m : Memref sig .tc .vmem S2x128x1024 .bf16) (r : Fin 2) (o o' : Fin 2 → Nat) (h : In S64x1024.size o) (h' : In S64x1024.size o') : P F := do
  let a : Vec F S1x128x1024 .bf16 ← Prog.lift (.load m (slotR r).toLoadRect (View.loadsAt_vmem h_S1x128x1024))
  let _ : Vec F S64x1024 .f32 ← Prog.lift (.load oM (rect S64x1024.size o h).toLoadRect (View.loadsAt_vmem h_S64x1024))
  Prog.lift (.store oM (rect S64x1024.size o h)
    (extractStridedSlice S64x1024 ![64 * 0, 0] (extf .f32 (shapeCast S128x1024 a shapeCasts_S1x128x1024_S128x1024) bitsLt_bf16_f32) (slices_64 0 (by decide)) : FVec F S64x1024 .f32)
    Finset.univ (View.stores_vmem_bits_univ h_S64x1024 rfl) (.inl rfl))
  let _ : Vec F S64x1024 .f32 ← Prog.lift (.load oM (rect S64x1024.size o' h').toLoadRect (View.loadsAt_vmem h_S64x1024))
  Prog.lift (.store oM (rect S64x1024.size o' h')
    (extractStridedSlice S64x1024 ![64 * 1, 0] (extf .f32 (shapeCast S128x1024 a shapeCasts_S1x128x1024_S128x1024) bitsLt_bf16_f32) (slices_64 1 (by decide)) : FVec F S64x1024 .f32)
    Finset.univ (View.stores_vmem_bits_univ h_S64x1024 rfl) (.inl rfl))

/-- The handshake with both neighbours. -/
def shakeP (l r : Dev nD) : P F := do
  semSignalWord l barS 1#32
  semSignalWord r barS 1#32
  semWaitWord barS 2#32

theorem hscA (i : Fin 2) : (slotM aM i).view.ref.isScScratch = false := rfl
theorem hscB (i : Fin 2) : (slotM bM i).view.ref.isScScratch = false := rfl

abbrev sendA (s r : Fin 2) (n : Dev nD) : P F := sendP aM haM hscA asS arS s r n
abbrev sendB (s r : Fin 2) (n : Dev nD) : P F := sendP bM hbM hscB bsS brS s r n
abbrev waitA (s r : Fin 2) : P F := waitP aM haM asS arS s r
abbrev waitB (s r : Fin 2) : P F := waitP bM hbM bsS brS s r

abbrev wqB (o : Fin 2 → Nat) (h : ∀ b, o b + S1024x1024.size b ≤ S1024x4096.size b) : Memref sig .tc .hbm S1024x1024 .f32 :=
  wqH.slice (Rect.unit (s := S1024x4096) o S1024x1024.size h) (fun _ => rfl)
abbrev woB (o : Fin 2 → Nat) (h : ∀ b, o b + S1024x1024.size b ≤ S4096x1024.size b) : Memref sig .tc .hbm S1024x1024 .f32 :=
  woH.slice (Rect.unit (s := S4096x1024) o S1024x1024.size h) (fun _ => rfl)

/-- Fetch a device's block of a weight. -/
def fetchP (src : Memref sig .tc .hbm S1024x1024 .f32) (hs : src.view.WordExact) (dst : Memref sig .tc .vmem S1024x1024 .f32) (hd : dst.view.WordExact) (s : DmaSem sig) : P F :=
  Prog.lift (.enqueueDma src (.here dst) (.dma s) hs hd ⟨Or.inl rfl, trivial⟩)
def fetchedP (src : Memref sig .tc .hbm S1024x1024 .f32) (hs : src.view.WordExact) (dst : Memref sig .tc .vmem S1024x1024 .f32) (hd : dst.view.WordExact) (s : DmaSem sig) : P F :=
  Prog.lift (.waitDma2 s src dst hs hd)

/-! ## The body, over the printed offsets -/

def offsOwn (d : Dev nD) : Offs where
  row := k0_off3 d
  head := fun | 0 => k0_off4 d | 1 => k0_off5 d | 2 => k0_off6 d | 3 => k0_off7 d | 4 => k0_off8 d | 5 => k0_off9 d | 6 => k0_off10 d | 7 => k0_off11 d
  hrow := k0_off3_inb d
  hhead := fun | 0 => k0_off4_inb d | 1 => k0_off5_inb d | 2 => k0_off6_inb d | 3 => k0_off7_inb d | 4 => k0_off8_inb d | 5 => k0_off9_inb d | 6 => k0_off10_inb d | 7 => k0_off11_inb d

def offsNext (d : Dev nD) (w : BitVec 32) (i : Fin 3) (h14 : In S256x1024.size (k0_off14 d w)) (h15 : In S256x128.size (k0_off15 d w)) (h16 : In S256x128.size (k0_off16 d w))
    (h17 : In S256x128.size (k0_off17 d w)) (h18 : In S256x128.size (k0_off18 d w)) (h19 : In S256x128.size (k0_off19 d w))
    (h20 : In S256x128.size (k0_off20 d w)) (h21 : In S256x128.size (k0_off21 d w)) (h22 : In S256x128.size (k0_off22 d w)) : Offs where
  row := k0_off14 d w
  head := fun | 0 => k0_off15 d w | 1 => k0_off16 d w | 2 => k0_off17 d w | 3 => k0_off18 d w | 4 => k0_off19 d w | 5 => k0_off20 d w | 6 => k0_off21 d w | 7 => k0_off22 d w
  hrow := h14
  hhead := fun | 0 => h15 | 1 => h16 | 2 => h17 | 3 => h18 | 4 => h19 | 5 => h20 | 6 => h21 | 7 => h22

def offs1 (d : Dev nD) : Offs := offsNext d 1#32 0 (k0_off14_inb d 0) (k0_off15_inb d 0) (k0_off16_inb d 0) (k0_off17_inb d 0) (k0_off18_inb d 0) (k0_off19_inb d 0) (k0_off20_inb d 0) (k0_off21_inb d 0) (k0_off22_inb d 0)
def offs2 (d : Dev nD) : Offs := offsNext d 2#32 1 (k0_off14_inb d 1) (k0_off15_inb d 1) (k0_off16_inb d 1) (k0_off17_inb d 1) (k0_off18_inb d 1) (k0_off19_inb d 1) (k0_off20_inb d 1) (k0_off21_inb d 1) (k0_off22_inb d 1)
def offs3 (d : Dev nD) : Offs := offsNext d 3#32 2 (k0_off14_inb d 2) (k0_off15_inb d 2) (k0_off16_inb d 2) (k0_off17_inb d 2) (k0_off18_inb d 2) (k0_off19_inb d 2) (k0_off20_inb d 2) (k0_off21_inb d 2) (k0_off22_inb d 2)

abbrev wqS (d : Dev nD) : Memref sig .tc .hbm S1024x1024 .f32 := wqB (k0_off1 d) (k0_off1_inb d)
abbrev woS (d : Dev nD) : Memref sig .tc .hbm S1024x1024 .f32 := woB (k0_off2 d) (k0_off2_inb d)

theorem wqM_exact : (wqM : Memref sig .tc .vmem S1024x1024 .f32).view.WordExact := (Memref.isWhole_whole _).wordExact
theorem woM_exact : (woM : Memref sig .tc .vmem S1024x1024 .f32).view.WordExact := (Memref.isWhole_whole _).wordExact

def rawP (d : Dev nD) : P F := do
  fetchP (wqS d) (View.wordExact_bits rfl) wqM wqM_exact (cpS 0)
  fetchP (woS d) (View.wordExact_bits rfl) woM woM_exact (cpS 1)
  shakeP ⟨k0_dev1 d, k0_dev1_lt d⟩ ⟨k0_dev2 d, k0_dev2_lt d⟩
  seqTo perm1 15 0
  fetchedP (wqS d) (View.wordExact_bits rfl) wqM wqM_exact (cpS 0)
  fetchedP (woS d) (View.wordExact_bits rfl) woM woM_exact (cpS 1)
  classP (offsOwn d)
  initP aM haM (k0_off12 d) (k0_off12_inb d)
  initP bM hbM (k0_off13 d) (k0_off13_inb d)
  sendA 0 1 ⟨k0_dev3 d, k0_dev3_lt d⟩
  sendB 0 1 ⟨k0_dev4 d, k0_dev4_lt d⟩
  classP (offs1 d)
  classP (offs3 d)
  waitA 0 1
  waitB 0 1
  addP aM haM 1 (k0_off23 d 0#32) (k0_off23_inb d 0)
  addP bM hbM 1 (k0_off24 d 0#32) (k0_off24_inb d 0)
  shakeP ⟨k0_dev5 d, k0_dev5_lt d⟩ ⟨k0_dev6 d, k0_dev6_lt d⟩
  sendA 1 0 ⟨k0_dev7 d, k0_dev7_lt d⟩
  sendB 1 0 ⟨k0_dev8 d, k0_dev8_lt d⟩
  classP (offs2 d)
  waitA 1 0
  waitB 1 0
  addP aM haM 0 (k0_off23 d 1#32) (k0_off23_inb d 1)
  addP bM hbM 0 (k0_off24 d 1#32) (k0_off24_inb d 1)
  shakeP ⟨k0_dev9 d, k0_dev9_lt d⟩ ⟨k0_dev10 d, k0_dev10_lt d⟩
  sendA 0 1 ⟨k0_dev11 d, k0_dev11_lt d⟩
  sendB 0 1 ⟨k0_dev12 d, k0_dev12_lt d⟩
  waitA 0 1
  waitB 0 1
  addP aM haM 1 (k0_off23 d 2#32) (k0_off23_inb d 2)
  addP bM hbM 1 (k0_off24 d 2#32) (k0_off24_inb d 2)
  storeP aM 1 (k0_off25 d 1#32 0#32 0#32) (k0_off25 d 1#32 0#32 1#32) (k0_off25_inb d 0) (k0_off25_inb d 1)
  storeP bM 1 (k0_off26 d 0#32) (k0_off26 d 1#32) (k0_off26_inb d 0) (k0_off26_inb d 1)
  shakeP ⟨k0_dev13 d, k0_dev13_lt d⟩ ⟨k0_dev14 d, k0_dev14_lt d⟩
  sendA 1 0 ⟨k0_dev15 d, k0_dev15_lt d⟩
  sendB 1 0 ⟨k0_dev16 d, k0_dev16_lt d⟩
  waitA 1 0
  waitB 1 0
  storeP aM 0 (k0_off27 d 0#32 0#32) (k0_off27 d 0#32 1#32) (k0_off27_inb d 0 0) (k0_off27_inb d 0 1)
  storeP bM 0 (k0_off25 d 0#32 2#32 0#32) (k0_off25 d 0#32 2#32 1#32) (k0_off25_inb d 2) (k0_off25_inb d 3)
  shakeP ⟨k0_dev17 d, k0_dev17_lt d⟩ ⟨k0_dev18 d, k0_dev18_lt d⟩
  sendA 0 1 ⟨k0_dev19 d, k0_dev19_lt d⟩
  sendB 0 1 ⟨k0_dev20 d, k0_dev20_lt d⟩
  waitA 0 1
  waitB 0 1
  storeP aM 1 (k0_off27 d 1#32 0#32) (k0_off27 d 1#32 1#32) (k0_off27_inb d 1 0) (k0_off27_inb d 1 1)
  storeP bM 1 (k0_off25 d 1#32 2#32 0#32) (k0_off25 d 1#32 2#32 1#32) (k0_off25_inb d 4) (k0_off25_inb d 5)
  shakeP ⟨k0_dev21 d, k0_dev21_lt d⟩ ⟨k0_dev22 d, k0_dev22_lt d⟩
  sendA 1 0 ⟨k0_dev23 d, k0_dev23_lt d⟩
  sendB 1 0 ⟨k0_dev24 d, k0_dev24_lt d⟩
  waitA 1 0
  waitB 1 0
  storeP aM 0 (k0_off27 d 2#32 0#32) (k0_off27 d 2#32 1#32) (k0_off27_inb d 2 0) (k0_off27_inb d 2 1)
  storeP bM 0 (k0_off25 d 2#32 2#32 0#32) (k0_off25 d 2#32 2#32 1#32) (k0_off25_inb d 6) (k0_off25_inb d 7)

end Cert.Ring

end
-- ==== Proof.BodyEq.lean ====
/- The printed body is the program of `Shape`. -/
module

public import proofs.«01_k».proof.Proof.Shape
public import Idealize.ShloMosaic.Lib.Pipeline.Regions

@[expose] public section

noncomputable section

namespace Cert.Ring

open Cert.KernelIdeal Cert.KernelIdeal.Gen Cert.KernelIdeal.Facts
open Idealize.ShloMosaic Idealize.ShloMosaic.TcCoe
open Idealize.SL.Sem
open Idealize.ShloMosaic.Pipeline

variable {F : FTy → Type} [FloatOps F]

theorem body_eq :
    (cc0__body (F := F) (Memref.whole cc0_stg0_0) (Memref.isWhole_whole _) (Memref.whole main_arg1) (Memref.isWhole_whole _) (Memref.whole cc0_stg1_0) (Memref.isWhole_whole _)
      (Memref.whole cc0_stg2_0) (Memref.isWhole_whole _) (Memref.whole main_arg4) (Memref.isWhole_whole _) (Memref.whole cc0_stg3_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _)
      cc0_scratch9 cc0_scratch10 cc0_scratch11 cc0_scratch12 cc0_scratch13)
      = (Prog.lift .deviceId >>= fun d : Dev nD => rawP d) := by
  chain_rfl

end Cert.Ring

end
-- ==== Proof.Clean.lean ====
/- The kernel's body over closed offsets.

The offsets the body prints are words computed from the device's number. Here they are spelt out: the rows of a class,
its columns of one head, its halves, the places its four blocks are stored at, and the two neighbours on the ring. -/
module

public import proofs.«01_k».proof.Proof.BodyEq

@[expose] public section

noncomputable section

namespace Cert.Ring

open Cert.KernelIdeal Cert.KernelIdeal.Gen Cert.KernelIdeal.Facts
open Idealize.ShloMosaic Idealize.ShloMosaic.TcCoe
open Idealize.SL.Sem
open Idealize.ShloMosaic.Pipeline

variable {F : FTy → Type} [FloatOps F]

/-! ## The ring, and the classes -/

/-- The right neighbour. -/
def nxt (d : Dev nD) : Dev nD := ⟨(d.val + 1) % 4, Nat.mod_lt _ (by decide)⟩
/-- The left neighbour. -/
def prv (d : Dev nD) : Dev nD := ⟨(d.val + 3) % 4, Nat.mod_lt _ (by decide)⟩

theorem prv_nxt (d : Dev nD) : prv (nxt d) = d := by revert d; decide
theorem nxt_prv (d : Dev nD) : nxt (prv d) = d := by revert d; decide

/-- The class of rows `k` after the device's own. -/
def cls (d : Dev nD) (k : Nat) : Fin 4 := ⟨(d.val + k) % 4, Nat.mod_lt _ (by decide)⟩

theorem row_in (c : Fin 4) : In S256x1024.size ![256 * c.val, 0] := by
  intro b; have := c.isLt; fin_cases b
  · show 256 * c.val + 256 ≤ 1024; omega
  · show 0 + 1024 ≤ 1024; omega

theorem head_in (c : Fin 4) (h : Fin 8) : In S256x128.size ![256 * c.val, 128 * h.val] := by
  intro b; have := c.isLt; have := h.isLt; fin_cases b
  · show 256 * c.val + 256 ≤ 1024; omega
  · show 128 * h.val + 128 ≤ 1024; omega

/-- The rows of class `c`. -/
def offsC (c : Fin 4) : Offs where
  row := ![256 * c.val, 0]
  head := fun h => ![256 * c.val, 128 * h.val]
  hrow := row_in c
  hhead := head_in c

/-- Half `u` of the rows of class `c`: the half that travels on ring `u`. -/
abbrev halfO (u : Fin 2) (c : Fin 4) : Fin 2 → Nat := ![256 * c.val + 128 * u.val, 0]
theorem half_in (u : Fin 2) (c : Fin 4) : In S128x1024.size (halfO u c) := by
  intro b; have := c.isLt; have := u.isLt; fin_cases b
  · show 256 * c.val + 128 * u.val + 128 ≤ 1024; omega
  · show 0 + 1024 ≤ 1024; omega

/-- Where block `j` of that half is stored. -/
abbrev outO (u : Fin 2) (c : Fin 4) (j : Fin 2) : Fin 2 → Nat := ![64 * (4 * (2 * u.val + j.val) + c.val), 0]
theorem out_in (u : Fin 2) (c : Fin 4) (j : Fin 2) : In S64x1024.size (outO u c j) := by
  have := c.isLt; have := u.isLt; have := j.isLt
  exact in64 _ (by omega)

/-- Columns `1024 d …` of the query weights, and rows `1024 d …` of the output weights. -/
theorem wq_in (d : Dev nD) : ∀ b, (![0, 1024 * d.val] : Fin 2 → Nat) b + S1024x1024.size b ≤ S1024x4096.size b := by
  intro b; have := d.isLt; fin_cases b
  · show 0 + 1024 ≤ 1024; omega
  · show 1024 * d.val + 1024 ≤ 4096; have : d.val < 4 := d.isLt; omega
theorem wo_in (d : Dev nD) : ∀ b, (![1024 * d.val, 0] : Fin 2 → Nat) b + S1024x1024.size b ≤ S4096x1024.size b := by
  intro b; have := d.isLt; fin_cases b
  · show 1024 * d.val + 1024 ≤ 4096; have : d.val < 4 := d.isLt; omega
  · show 0 + 1024 ≤ 1024; omega

abbrev wqC (d : Dev nD) : Memref sig .tc .hbm S1024x1024 .f32 := wqB ![0, 1024 * d.val] (wq_in d)
abbrev woC (d : Dev nD) : Memref sig .tc .hbm S1024x1024 .f32 := woB ![1024 * d.val, 0] (wo_in d)

def addA (r : Fin 2) (c : Fin 4) : P F := addP aM haM r (halfO 0 c) (half_in 0 c)
def addB (r : Fin 2) (c : Fin 4) : P F := addP bM hbM r (halfO 1 c) (half_in 1 c)
def storeA (r : Fin 2) (c : Fin 4) : P F := storeP aM r (outO 0 c 0) (outO 0 c 1) (out_in 0 c 0) (out_in 0 c 1)
def storeB (r : Fin 2) (c : Fin 4) : P F := storeP bM r (outO 1 c 0) (outO 1 c 1) (out_in 1 c 0) (out_in 1 c 1)

/-- The sends of a step. -/
def sends (d : Dev nD) (s r : Fin 2) : P F := do sendA s r (nxt d); sendB s r (prv d)
/-- The waits of a step. -/
def waits (s r : Fin 2) : P F := do waitA s r; waitB s r

def cleanP (d : Dev nD) : P F := do
  fetchP (wqC d) (View.wordExact_bits rfl) wqM wqM_exact (cpS 0)
  fetchP (woC d) (View.wordExact_bits rfl) woM woM_exact (cpS 1)
  shakeP (prv d) (nxt d)
  seqTo perm1 15 0
  fetchedP (wqC d) (View.wordExact_bits rfl) wqM wqM_exact (cpS 0)
  fetchedP (woC d) (View.wordExact_bits rfl) woM woM_exact (cpS 1)
  classP (offsC (cls d 0))
  initP aM haM (halfO 0 (cls d 0)) (half_in _ _)
  initP bM hbM (halfO 1 (cls d 0)) (half_in _ _)
  sends d 0 1
  classP (offsC (cls d 1))
  classP (offsC (cls d 3))
  waits 0 1
  addA 1 (cls d 3)
  addB 1 (cls d 1)
  shakeP (prv d) (nxt d)
  sends d 1 0
  classP (offsC (cls d 2))
  waits 1 0
  addA 0 (cls d 2)
  addB 0 (cls d 2)
  shakeP (prv d) (nxt d)
  sends d 0 1
  waits 0 1
  addA 1 (cls d 1)
  addB 1 (cls d 3)
  storeA 1 (cls d 1)
  storeB 1 (cls d 3)
  shakeP (prv d) (nxt d)
  sends d 1 0
  waits 1 0
  storeA 0 (cls d 0)
  storeB 0 (cls d 0)
  shakeP (prv d) (nxt d)
  sends d 0 1
  waits 0 1
  storeA 1 (cls d 3)
  storeB 1 (cls d 1)
  shakeP (prv d) (nxt d)
  sends d 1 0
  waits 1 0
  storeA 0 (cls d 2)
  storeB 0 (cls d 2)

theorem raw_eq (d : Dev nD) : rawP (F := F) d = cleanP d := by
  fin_cases d
  · chain_rfl
  · chain_rfl
  · chain_rfl
  · chain_rfl

end Cert.Ring

end
-- ==== Proof.Pure.lean ====
/- What the kernel computes, as functions of arrays, at any reading of the floating point.

The blocks of rows put in class order; one head, one class and its share of the output; the messages the two rings
carry; the result. -/
module

public import proofs.«01_k».proof.Proof.Clean
public import Idealize.ShloMosaic.Lib.VecWindow

@[expose] public section

noncomputable section

namespace Cert.Ring

open Cert.KernelIdeal Cert.KernelIdeal.Gen Cert.KernelIdeal.Facts
open Idealize.ShloMosaic Idealize.ShloMosaic.TcCoe

variable {F : FTy → Type} [FloatOps F]
variable {α : Type}

/-- An array of the square buffers' shape. -/
abbrev Sq (α : Type) : Type := S1024x1024.Idx → α

/-- The rectangle of sizes `s` at `o`, read out of a square array. -/
abbrev win (x : Sq α) (s o : Fin 2 → Nat) (h : In s o) : (⟨2, s⟩ : Shape).Idx → α := VecWindow.window x o s h

/-- The square array with `w` over the rectangle of sizes `s` at `o`. -/
abbrev upd (x : Sq α) (s o : Fin 2 → Nat) (w : (⟨2, s⟩ : Shape).Idx → α) : Sq α := VecWindow.put x o s w

/-- The index at row `i`, column `j`. -/
def mk2 (a b i j : Nat) (hi : i < a) (hj : j < b) : (⟨2, ![a, b]⟩ : Shape).Idx
  | ⟨0, _⟩ => ⟨i, hi⟩
  | ⟨1, _⟩ => ⟨j, hj⟩

theorem ext2 {a b : Nat} {x y : (⟨2, ![a, b]⟩ : Shape).Idx} (h0 : (x 0).val = (y 0).val) (h1 : (x 1).val = (y 1).val) : x = y := by
  funext k
  match k with
  | ⟨0, _⟩ => exact Fin.ext h0
  | ⟨1, _⟩ => exact Fin.ext h1

theorem row_lt {a b : Nat} (x : (⟨2, ![a, b]⟩ : Shape).Idx) : (x 0).val < a := (x 0).isLt
theorem col_lt {a b : Nat} (x : (⟨2, ![a, b]⟩ : Shape).Idx) : (x 1).val < b := (x 1).isLt

theorem win_apply (x : Sq α) (a b o0 o1 : Nat) (h : In ![a, b] ![o0, o1]) (i : (⟨2, ![a, b]⟩ : Shape).Idx)
    (h0 : o0 + (i 0).val < 1024) (h1 : o1 + (i 1).val < 1024) :
    win x ![a, b] ![o0, o1] h i = x (mk2 1024 1024 (o0 + (i 0).val) (o1 + (i 1).val) h0 h1) :=
  congrArg x (ext2 (by show o0 + 1 * (i 0).val = _; rw [Nat.one_mul]; rfl) (by show o1 + 1 * (i 1).val = _; rw [Nat.one_mul]; rfl))

/-- What a rectangle reads at an index, said at the element it reads. -/
theorem win_at (x : Sq α) (a b o0 o1 : Nat) (h : In ![a, b] ![o0, o1]) (i : S1024x1024.Idx) (p q : Nat) (hp : p < a) (hq : q < b)
    (e0 : (i 0).val = o0 + p) (e1 : (i 1).val = o1 + q) : x i = win x ![a, b] ![o0, o1] h (mk2 a b p q hp hq) :=
  congrArg x (ext2 (by show (i 0).val = o0 + 1 * p; omega) (by show (i 1).val = o1 + 1 * q; omega))

/-! ## Class order -/

/-- The original row of row `r` of the class order. -/
def permRow (r : Nat) : Nat := 64 * (r / 64 % 4 * 4 + r / 64 / 4 % 4) + r % 64
theorem permRow_lt (r : Nat) : permRow r < 1024 := by unfold permRow; omega

/-- The rows in class order. -/
def permF (x : Sq α) : Sq α := fun i => x (mk2 1024 1024 (permRow (i 0).val) (i 1).val (permRow_lt _) (col_lt i))

/-- The first `n` blocks are in place. -/
def Perm (n : Nat) (x f : Sq α) : Prop :=
  ∀ b, b < n → b < 16 → win f S64x1024.size ![dstRow b, 0] (dst_in b) = win x S64x1024.size ![srcRow b, 0] (src_in b)

theorem Perm.zero (x f : Sq α) : Perm 0 x f := fun _ h => absurd h (Nat.not_lt_zero _)

theorem Perm.step {n : Nat} {x f : Sq α} (h : Perm n x f) (hn : n < 16) :
    Perm (n + 1) x (upd f S64x1024.size ![dstRow n, 0] (win x S64x1024.size ![srcRow n, 0] (src_in n))) := fun b hb hb' => by
  rcases Nat.lt_succ_iff_lt_or_eq.mp hb with h1 | h1
  · refine Eq.trans (VecWindow.window_put_of_disjoint _ _ _ _ _ (dst_in b) _ 0 ?_) (h b h1 hb')
    left
    show 64 * (b % 16) + 64 ≤ 64 * (n % 16)
    omega
  · subst h1
    exact VecWindow.window_put_same _ _ _ (dst_in b) _

theorem Perm.done {x f : Sq α} (h : Perm 16 x f) : f = permF x := funext fun i => by
  have hr := row_lt i
  have hc := col_lt i
  have hb : (i 0).val / 64 < 16 := by omega
  have e := congrFun (h ((i 0).val / 64) hb hb) (mk2 64 1024 ((i 0).val % 64) (i 1).val (by omega) hc)
  rw [win_at f 64 1024 (dstRow ((i 0).val / 64)) 0 (dst_in _) i ((i 0).val % 64) (i 1).val (by omega) hc
    (by show (i 0).val = 64 * ((i 0).val / 64 % 16) + (i 0).val % 64; omega) (by omega)]
  refine e.trans (Eq.symm (win_at x 64 1024 (srcRow ((i 0).val / 64)) 0 (src_in _) _ ((i 0).val % 64) (i 1).val (by omega) hc ?_ (by show (i 1).val = 0 + (i 1).val; omega)))
  rfl

/-! ## One class -/

/-- One head of class `c`. -/
def headC (xp kp vp wq : FVec F S1024x1024 .f32) (c : Fin 4) (h : Fin 8) : FVec F S256x128 .f32 :=
  headOf (extractStridedSlice S256x128 ![0, 128 * h.val] (qOf (win xp S256x1024.size (offsC c).row (offsC c).hrow) wq) (slice_in h.val h.isLt))
    (win kp S256x128.size ((offsC c).head h) ((offsC c).hhead h)) (win vp S256x128.size ((offsC c).head h) ((offsC c).hhead h))

/-- All heads of class `c`, side by side. -/
def ctxC (xp kp vp wq : FVec F S1024x1024 .f32) (c : Fin 4) : FVec F S256x1024 .f32 := fun i =>
  headC xp kp vp wq c ⟨(i 1).val / 128, by have := col_lt i; omega⟩ (mk2 256 128 (i 0).val ((i 1).val % 128) (row_lt i) (Nat.mod_lt _ (by decide)))

/-- Class `c` after this device's share of the output projection. -/
def partC (xp kp vp wq wo : FVec F S1024x1024 .f32) (c : Fin 4) : FVec F S256x1024 .f32 :=
  matmul dot_S256x1024_S1024x1024_S256x1024_1_0_0_1_n_n none (ctxC xp kp vp wq c) wo (constant S256x1024 .f32 0x00000000#32)

/-- The first `n` heads of class `c` are in place. -/
def Heads (g : Fin 8 → (S256x128.Idx → α)) (c : Fin 4) (n : Nat) (f : Sq α) : Prop :=
  ∀ h : Fin 8, h.val < n → win f S256x128.size ((offsC c).head h) ((offsC c).hhead h) = g h

theorem Heads.zero (g : Fin 8 → (S256x128.Idx → α)) (c : Fin 4) (f : Sq α) : Heads g c 0 f := fun _ h => absurd h (Nat.not_lt_zero _)

theorem Heads.step {g : Fin 8 → (S256x128.Idx → α)} {c : Fin 4} {n : Nat} {f : Sq α} (h : Heads g c n f) (k : Fin 8) (hk : k.val = n) :
    Heads g c (n + 1) (upd f S256x128.size ((offsC c).head k) (g k)) := fun l hl => by
  rcases Nat.lt_succ_iff_lt_or_eq.mp hl with h1 | h1
  · refine Eq.trans (VecWindow.window_put_of_disjoint _ _ _ _ _ ((offsC c).hhead l) _ 1 ?_) (h l h1)
    left
    show 128 * l.val + 128 ≤ 128 * k.val
    omega
  · have : l = k := Fin.ext (h1.trans hk.symm)
    subst this
    exact VecWindow.window_put_same _ _ _ ((offsC c).hhead l) _

theorem Heads.done {xp kp vp wq : FVec F S1024x1024 .f32} {c : Fin 4} {f : Sq (F .f32)} (h : Heads (headC xp kp vp wq c) c 8 f) :
    win f S256x1024.size (offsC c).row (offsC c).hrow = ctxC xp kp vp wq c := funext fun i => by
  have hr : (i 0).val < 256 := row_lt (a := 256) (b := 1024) i
  have hc : (i 1).val < 1024 := col_lt (a := 256) (b := 1024) i
  have hcl := c.isLt
  have hh : (i 1).val / 128 < 8 := by omega
  have e := congrFun (h ⟨(i 1).val / 128, hh⟩ hh) (mk2 256 128 (i 0).val ((i 1).val % 128) hr (Nat.mod_lt _ (by decide)))
  refine Eq.trans (win_apply f 256 1024 (256 * c.val) 0 (row_in c) i (by omega) (by omega)) ?_
  refine Eq.trans (win_at f 256 128 (256 * c.val) (128 * ((i 1).val / 128)) (head_in c ⟨_, hh⟩) _ (i 0).val ((i 1).val % 128) hr (Nat.mod_lt _ (by decide)) rfl ?_) e
  show 0 + (i 1).val = 128 * ((i 1).val / 128) + (i 1).val % 128
  omega

/-- The classes in `S` are in place. -/
def Parts (g : Fin 4 → (S256x1024.Idx → α)) (S : Finset (Fin 4)) (f : Sq α) : Prop :=
  ∀ c ∈ S, win f S256x1024.size (offsC c).row (offsC c).hrow = g c

theorem Parts.empty (g : Fin 4 → (S256x1024.Idx → α)) (f : Sq α) : Parts g ∅ f := fun _ h => absurd h (Finset.notMem_empty _)

theorem Parts.step {g : Fin 4 → (S256x1024.Idx → α)} {S : Finset (Fin 4)} {f : Sq α} (h : Parts g S f) (k : Fin 4) :
    Parts g (insert k S) (upd f S256x1024.size (offsC k).row (g k)) := fun c hc => by
  by_cases e : c = k
  · subst e
    exact VecWindow.window_put_same _ _ _ ((offsC c).hrow) _
  · refine Eq.trans (VecWindow.window_put_of_disjoint _ _ _ _ _ ((offsC c).hrow) _ 0 ?_) (h c ((Finset.mem_insert.mp hc).resolve_left e))
    have : c.val ≠ k.val := fun h => e (Fin.ext h)
    show 256 * c.val + 256 ≤ 256 * k.val ∨ 256 * k.val + 256 ≤ 256 * c.val
    omega

/-- Half `u` of a class. -/
def half (u : Fin 2) (p : S256x1024.Idx → α) : S128x1024.Idx → α := fun i =>
  p (mk2 256 1024 (128 * u.val + (i 0).val) (i 1).val (by have := u.isLt; have := row_lt (a := 128) (b := 1024) i; omega) (col_lt (a := 128) (b := 1024) i))

theorem Parts.half {g : Fin 4 → (S256x1024.Idx → α)} {S : Finset (Fin 4)} {f : Sq α} (h : Parts g S f) {c : Fin 4} (hc : c ∈ S) (u : Fin 2) :
    win f S128x1024.size (halfO u c) (half_in u c) = half u (g c) := funext fun i => by
  have hr : (i 0).val < 128 := row_lt (a := 128) (b := 1024) i
  have hj : (i 1).val < 1024 := col_lt (a := 128) (b := 1024) i
  have hcl := c.isLt
  have hu := u.isLt
  refine Eq.trans (win_apply f 128 1024 (256 * c.val + 128 * u.val) 0 (half_in u c) i (by omega) (by omega)) ?_
  rw [← h c hc]
  refine win_at f 256 1024 (256 * c.val) 0 (row_in c) _ (128 * u.val + (i 0).val) (i 1).val (by omega) hj ?_ rfl
  show 256 * c.val + 128 * u.val + (i 0).val = 256 * c.val + (128 * u.val + (i 0).val)
  omega

/-! ## The messages -/

/-- A message of a ring. -/
abbrev Msg (F : FTy → Type) : Type := FVec F S128x1024 .bf16

/-- The message with the device's own share added. -/
def accum (v : Msg F) (p : FVec F S128x1024 .f32) : Msg F :=
  truncf .bf16 (addf (extf .f32 v bitsLt_bf16_f32) p) bitsLt_bf16_f32
/-- The first message. -/
def first (p : FVec F S128x1024 .f32) : Msg F := truncf .bf16 p bitsLt_bf16_f32

/-- What device `d` sends at step `g` of ring A: its own class at first; then the message that came, with its share of that
    class added for the first three steps. -/
def msgA (part : Dev nD → Fin 4 → FVec F S256x1024 .f32) : Nat → Dev nD → Msg F
  | 0, d => first (half 0 (part d (cls d 0)))
  | g + 1, d => if g < 3 then accum (msgA part g (prv d)) (half 0 (part d (cls d (3 - g)))) else msgA part g (prv d)
/-- The same of ring B, which runs the other way. -/
def msgB (part : Dev nD → Fin 4 → FVec F S256x1024 .f32) : Nat → Dev nD → Msg F
  | 0, d => first (half 1 (part d (cls d 0)))
  | g + 1, d => if g < 3 then accum (msgB part g (nxt d)) (half 1 (part d (cls d (g + 1)))) else msgB part g (nxt d)

theorem cls_prv (d : Dev nD) (k : Nat) : cls (prv d) (k + 1) = cls d k := Fin.ext (by show ((d.val + 3) % 4 + (k + 1)) % 4 = (d.val + k) % 4; omega)
theorem cls_nxt (d : Dev nD) (k : Nat) : cls (nxt d) k = cls d (k + 1) := Fin.ext (by show ((d.val + 1) % 4 + k) % 4 = (d.val + (k + 1)) % 4; omega)

/-- The finished chunk of class `c` on a ring. -/
def chunk (part : Dev nD → Fin 4 → FVec F S256x1024 .f32) (u : Fin 2) (c : Fin 4) : Msg F :=
  if u = 0 then msgA part 3 (prv c) else msgB part 3 (nxt c)

/-- Block `j` of a chunk. -/
def blk (j : Fin 2) (v : Msg F) : FVec F S64x1024 .f32 :=
  extractStridedSlice S64x1024 ![64 * j.val, 0] (extf .f32 v bitsLt_bf16_f32) (slices_64 j.val j.isLt)

/-- The result, the same on every device. -/
def outAll (part : Dev nD → Fin 4 → FVec F S256x1024 .f32) : FVec F S1024x1024 .f32 := fun i =>
  blk ⟨(i 0).val / 64 / 4 % 2, Nat.mod_lt _ (by decide)⟩
    (chunk part ⟨(i 0).val / 64 / 8, by have := row_lt i; omega⟩ ⟨(i 0).val / 64 % 4, Nat.mod_lt _ (by decide)⟩)
    (mk2 64 1024 ((i 0).val % 64) (i 1).val (Nat.mod_lt _ (by decide)) (col_lt i))

/-- The chunks in `S` are stored. -/
def Outs (g : Fin 2 → Fin 4 → Msg F) (S : Finset (Fin 2 × Fin 4)) (f : Sq (F .f32)) : Prop :=
  ∀ uc ∈ S, ∀ j : Fin 2, win f S64x1024.size (outO uc.1 uc.2 j) (out_in uc.1 uc.2 j) = blk j (g uc.1 uc.2)

theorem Outs.empty (g : Fin 2 → Fin 4 → Msg F) (f : Sq (F .f32)) : Outs g ∅ f := fun _ h => absurd h (Finset.notMem_empty _)

theorem Outs.step {g : Fin 2 → Fin 4 → Msg F} {S : Finset (Fin 2 × Fin 4)} {f : Sq (F .f32)} (h : Outs g S f) (u : Fin 2) (c : Fin 4) :
    Outs g (insert (u, c) S) (upd (upd f S64x1024.size (outO u c 0) (blk 0 (g u c))) S64x1024.size (outO u c 1) (blk 1 (g u c))) := fun uc huc j => by
  obtain ⟨u', c'⟩ := uc
  have hu := u.isLt
  have hu' := u'.isLt
  have hc := c.isLt
  have hc' := c'.isLt
  have hj := j.isLt
  by_cases e : (u', c') = (u, c)
  · obtain ⟨rfl, rfl⟩ := Prod.mk.inj e
    match j with
    | 0 =>
      refine Eq.trans (VecWindow.window_put_of_disjoint _ _ _ _ _ (out_in u' c' 0) _ 0 ?_) (VecWindow.window_put_same _ _ _ (out_in u' c' 0) _)
      show 64 * (4 * (2 * u'.val + 0) + c'.val) + 64 ≤ 64 * (4 * (2 * u'.val + 1) + c'.val) ∨ _
      left; omega
    | 1 => exact VecWindow.window_put_same _ _ _ (out_in u' c' 1) _
  · have hne : ¬ (u'.val = u.val ∧ c'.val = c.val) := fun h => e (Prod.ext (Fin.ext h.1) (Fin.ext h.2))
    refine Eq.trans (VecWindow.window_put_of_disjoint _ _ _ _ _ (out_in u' c' j) _ 0 ?_)
      (Eq.trans (VecWindow.window_put_of_disjoint _ _ _ _ _ (out_in u' c' j) _ 0 ?_) (h _ ((Finset.mem_insert.mp huc).resolve_left e) j))
    · show 64 * (4 * (2 * u'.val + j.val) + c'.val) + 64 ≤ 64 * (4 * (2 * u.val + 1) + c.val)
        ∨ 64 * (4 * (2 * u.val + 1) + c.val) + 64 ≤ 64 * (4 * (2 * u'.val + j.val) + c'.val)
      omega
    · show 64 * (4 * (2 * u'.val + j.val) + c'.val) + 64 ≤ 64 * (4 * (2 * u.val + 0) + c.val)
        ∨ 64 * (4 * (2 * u.val + 0) + c.val) + 64 ≤ 64 * (4 * (2 * u'.val + j.val) + c'.val)
      omega

theorem Outs.done {part : Dev nD → Fin 4 → FVec F S256x1024 .f32} {S : Finset (Fin 2 × Fin 4)} {f : Sq (F .f32)} (h : Outs (chunk part) S f)
    (hS : ∀ uc, uc ∈ S) : f = outAll part := funext fun i => by
  have hr := row_lt i
  have hc := col_lt i
  have e := congrFun (h (⟨(i 0).val / 64 / 8, by omega⟩, ⟨(i 0).val / 64 % 4, Nat.mod_lt _ (by decide)⟩) (hS _) ⟨(i 0).val / 64 / 4 % 2, Nat.mod_lt _ (by decide)⟩)
    (mk2 64 1024 ((i 0).val % 64) (i 1).val (Nat.mod_lt _ (by decide)) hc)
  refine Eq.trans (win_at f 64 1024 _ 0 (out_in _ _ _) i ((i 0).val % 64) (i 1).val (Nat.mod_lt _ (by decide)) hc ?_ (by omega)) e
  show (i 0).val = 64 * (4 * (2 * ((i 0).val / 64 / 8) + (i 0).val / 64 / 4 % 2) + (i 0).val / 64 % 4) + (i 0).val % 64
  omega

end Cert.Ring

end
-- ==== Proof.Local.lean ====
/- The pieces that stay on one device, each with what it does to the buffers it touches. -/
module

public import proofs.«01_k».proof.Proof.Pure
public import Idealize.ShloMosaic.Lib.Rounds
public import Idealize.ShloMosaic.Lib.MemrefSat
public import Idealize.ShloMosaic.Lib.Pipeline.Value

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, and the rings' with duties named by `Bool` -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

abbrev 𝒱₀ : Variants := Variants.none

/-- What running `p` on device `d` needs to end in `Q`. -/
abbrev W (d : Dev nD) (p : P F) (Q : PUnit → sProp 𝕄) : sProp 𝕄 := wp frame (wpE (defs₀ (F := F)) 𝒱₀ (d : Thread nD τ) none) Set.univ p Q

theorem W_done {d : Dev nD} {Q : PUnit → sProp 𝕄} : Q ⟨⟩ ⊢ W d (.ret ⟨⟩) Q := by
  unfold W
  rw [wp_ret]
  iintro H
  imodintro
  iexact H

theorem W_bind (d : Dev nD) (p : P F) (k : PUnit → P F) (Q : PUnit → sProp 𝕄) : W d (p >>= k) Q = W d p (fun a => W d (k a) Q) := wp_bind _ _ _ _ _ _

/-- A buffer of device `d` holding `X`. -/
abbrev own (d : Dev nD) {s : Shape} {e : EltTy} (m : Memref sig .tc .vmem s e) (X : s.Idx → Elt F e) : sProp 𝕄 :=
  owns (d : Thread nD τ) m fullShare X

section
variable {d : Dev nD} {s : Shape} {e : EltTy} {m : Memref sig .tc .vmem s e}

theorem wp_load_own {o z : Fin s.rank → Nat} {h : ∀ a, o a + z a ≤ s.size a} {hl : m.view.LoadsAt (Rect.unit o z h).toLoadRect}
    {k : ((Rect.unit o z h).shape.Idx → Elt F e) → P F} {Q : PUnit → sProp 𝕄} (X : s.Idx → Elt F e) :
    own d m X ⊢ iprop((own d m X -∗ W d (k (VecWindow.window X o z h)) Q) -∗ W d (.op (.load m (Rect.unit o z h).toLoadRect hl) k) Q) := by
  unfold own owns
  iintro ⟨%f, %hf, Hm⟩ Hk
  subst hf
  iapply (wp_load 𝒱₀ (d : Thread nD τ) none Set.univ (m := m) (View.setOn_subset_set _ _)) $$ Hm
  iintro Hm
  iapply Hk
  iexists f
  isplitr
  · ipureintro; rfl
  · iexact Hm

theorem wp_store_own {o z : Fin s.rank → Nat} {h : ∀ a, o a + z a ≤ s.size a} {w : (Rect.unit o z h).shape.Idx → Elt F e}
    {hx : (m.access (Rect.unit o z h)).Stores Finset.univ} {hm : Finset.univ = Finset.univ ∨ ∀ a, (Rect.unit o z h).stride a = 1}
    {k : PUnit → P F} {Q : PUnit → sProp 𝕄} (X : s.Idx → Elt F e) :
    own d m X ⊢ iprop((own d m (VecWindow.put X o z w) -∗ W d (k ⟨⟩) Q) -∗ W d (.op (.store m (Rect.unit o z h) w Finset.univ hx hm) k) Q) := by
  unfold own owns
  iintro ⟨%f, %hf, Hm⟩ Hk
  subst hf
  iapply (wp_store 𝒱₀ (d : Thread nD τ) none Set.univ (m := m) (r := Rect.unit o z h) (Mk := Finset.univ) (S := m.view.set) (View.set_slice_subset _ _)) $$ Hm
  iintro Hm
  iapply Hk
  iexists _
  isplitr
  · ipureintro
    exact View.read_writes_cons_put m.view f h w [] rfl
  · iexact Hm

end

/-! ## A slot of a ring, loaded and stored through the pair -/

theorem cast_read_reshape {s s' : Shape} {sp : Space} {e : EltTy} (v : View sig .tc sp s e) (h : s'.numel = s.numel) (hc : s'.ShapeCasts s) (f : v.ty.Contents (Elt F)) :
    shapeCast s ((v.reshape s' h).read (Elt F) f) hc = v.read (Elt F) f := funext fun x => by
  show v.read (Elt F) f (Shape.reshapeEquiv _ (Shape.reshapeEquiv _ x)) = _
  rw [Shape.reshapeEquiv_reshapeEquiv, Shape.reshapeEquiv_self]

theorem read_reshape_write {s s' : Shape} {sp : Space} {e : EltTy} (v : View sig .tc sp s e) (h : s'.numel = s.numel) (hc : s'.ShapeCasts s) (f : v.ty.Contents (Elt F))
    (w : s'.Idx → Elt F e) : (v.reshape s' h).read (Elt F) (v.write (Elt F) f (shapeCast s w hc) Finset.univ) = w := funext fun x => by
  show v.read (Elt F) (v.write (Elt F) f (shapeCast s w hc) Finset.univ) (Shape.reshapeEquiv _ x) = w x
  rw [View.read_write_univ]
  show w (Shape.reshapeEquiv _ (Shape.reshapeEquiv _ x)) = w x
  rw [Shape.reshapeEquiv_reshapeEquiv, Shape.reshapeEquiv_self]

theorem slot_set (m : Memref sig .tc .vmem S2x128x1024 .bf16) (i : Fin 2) : (slotM m i).view.set = (m.access (slotR i)).set :=
  View.set_reshape _ _

section
variable {d : Dev nD} {m : Memref sig .tc .vmem S2x128x1024 .bf16}

theorem wp_load_slot {i : Fin 2} {hl : m.view.LoadsAt (slotR i).toLoadRect} {k : (S1x128x1024.Idx → Elt F .bf16) → P F} {Q : PUnit → sProp 𝕄} (v : Msg F) :
    own d (slotM m i) v ⊢ iprop((own d (slotM m i) v -∗ W d (k (shapeCast S1x128x1024 v shapeCasts_S128x1024_S1x128x1024)) Q)
      -∗ W d (.op (.load m (slotR i).toLoadRect hl) k) Q) := by
  unfold own owns
  iintro ⟨%f, %hf, Hm⟩ Hk
  subst hf
  iapply (wp_load_rect 𝒱₀ (d : Thread nD τ) none Set.univ (m := m) (r := slotR i) (S := (slotM m i).view.set)
    (Finset.subset_of_eq (slot_set m i).symm)) $$ Hm
  iintro Hm
  have e : shapeCast S1x128x1024 ((slotM m i).view.read (Elt F) f) shapeCasts_S128x1024_S1x128x1024 = (m.access (slotR i)).read (Elt F) f := by
    exact cast_read_reshape (m.access (slotR i)) _ _ f
  rw [e]
  iapply Hk
  iexists f
  isplitr
  · ipureintro; rfl
  · iexact Hm

theorem wp_store_slot {i : Fin 2} {w : Msg F} {hx : (m.access (slotR i)).Stores Finset.univ} {hm : Finset.univ = Finset.univ ∨ ∀ a, (slotR i).stride a = 1}
    {k : PUnit → P F} {Q : PUnit → sProp 𝕄} (v : Msg F) :
    own d (slotM m i) v ⊢ iprop((own d (slotM m i) w -∗ W d (k ⟨⟩) Q)
      -∗ W d (.op (.store m (slotR i) (shapeCast S1x128x1024 w shapeCasts_S128x1024_S1x128x1024 : FVec F S1x128x1024 .bf16) Finset.univ hx hm) k) Q) := by
  unfold own owns
  iintro ⟨%f, %hf, Hm⟩ Hk
  iapply (wp_store 𝒱₀ (d : Thread nD τ) none Set.univ (m := m) (r := slotR i) (Mk := Finset.univ) (S := (slotM m i).view.set)
    (Finset.subset_of_eq (slot_set m i).symm)) $$ Hm
  iintro Hm
  iapply Hk
  iexists (m.access (slotR i)).write (Elt F) f (shapeCast S1x128x1024 w shapeCasts_S128x1024_S1x128x1024) Finset.univ
  isplitr
  rotate_left
  · iexact Hm
  ipureintro
  exact read_reshape_write (m.access (slotR i)) _ _ f w

end

/-! ## The copies into class order -/

section
variable {d : Dev nD}

theorem wp_copyP {src dst : Memref sig .tc .vmem S1024x1024 .f32} {o o' : Fin 2 → Nat} {h : In S64x1024.size o} {h' : In S64x1024.size o'}
    {Q : PUnit → sProp 𝕄} (X Y : FVec F S1024x1024 .f32) :
    iprop(own d src X ∗ own d dst Y) ⊢ iprop(((own d src X ∗ own d dst (upd Y S64x1024.size o' (win X S64x1024.size o h))) -∗ Q ⟨⟩)
      -∗ W d (copyP src dst o o' h h') Q) := by
  unfold copyP
  simp only [Prog.lift, Prog.bind_op, Prog.bind_ret]
  iintro ⟨HX, HY⟩ Hk
  iapply (wp_load_own X) $$ HX
  iintro HX
  iapply (wp_load_own Y) $$ HY
  iintro HY
  iapply (wp_store_own Y) $$ HY
  iintro HY
  iapply W_done
  iapply Hk
  isplitl [HX]
  · iexact HX
  · rw [shapeCast_self, shapeCast_self]
    iexact HY

/-- What the copies hold: the inputs, and their rows in class order as far as block `n`. -/
def perms (d : Dev nD) (x k v : FVec F S1024x1024 .f32) (n : Nat) : sProp 𝕄 :=
  iprop(own d xM x ∗ own d kM k ∗ own d vM v ∗ ownsSat (d : Thread nD τ) xpM fullShare (Perm n x)
    ∗ ownsSat (d : Thread nD τ) kpM fullShare (Perm n k) ∗ ownsSat (d : Thread nD τ) vpM fullShare (Perm n v))

theorem wp_copy_perm {src dst : Memref sig .tc .vmem S1024x1024 .f32} {n : Nat} (hn : n < 16) {Q : PUnit → sProp 𝕄} (X : FVec F S1024x1024 .f32) :
    iprop(own d src X ∗ ownsSat (d : Thread nD τ) dst fullShare (Perm n X))
      ⊢ iprop(((own d src X ∗ ownsSat (d : Thread nD τ) dst fullShare (Perm (n + 1) X)) -∗ Q ⟨⟩)
      -∗ W d (copyP src dst ![srcRow n, 0] ![dstRow n, 0] (src_in n) (dst_in n)) Q) := by
  iintro ⟨HX, HY⟩ Hk
  ihave HY' := (ownsSat_elim (d : Thread nD τ) dst fullShare (Perm n X)) $$ HY
  icases HY' with ⟨%Y, %hY, HY⟩
  iapply (wp_copyP X Y) $$ [HX HY]
  · isplitl [HX]
    · iexact HX
    · iexact HY
  iintro ⟨HX, HY⟩
  iapply Hk
  isplitl [HX]
  · iexact HX
  · iapply (ownsSat_intro (d : Thread nD τ) dst fullShare (hY.step hn))
    iexact HY

theorem wp_perm1 (x k v : FVec F S1024x1024 .f32) {n : Nat} (hn : n < 16) {Q : PUnit → sProp 𝕄} :
    perms d x k v n ⊢ iprop((perms d x k v (n + 1) -∗ Q ⟨⟩) -∗ W d (perm1 n) Q) := by
  unfold perms perm1
  rw [W_bind, W_bind]
  iintro ⟨Hx, Hk, Hv, Hxp, Hkp, Hvp⟩ Hc
  iapply (wp_copy_perm hn x) $$ [Hx Hxp]
  · isplitl [Hx]
    · iexact Hx
    · iexact Hxp
  iintro ⟨Hx, Hxp⟩
  iapply (wp_copy_perm hn k) $$ [Hk Hkp]
  · isplitl [Hk]
    · iexact Hk
    · iexact Hkp
  iintro ⟨Hk, Hkp⟩
  iapply (wp_copy_perm hn v) $$ [Hv Hvp]
  · isplitl [Hv]
    · iexact Hv
    · iexact Hvp
  iintro ⟨Hv, Hvp⟩
  iapply Hc
  isplitl [Hx]; · iexact Hx
  isplitl [Hk]; · iexact Hk
  isplitl [Hv]; · iexact Hv
  isplitl [Hxp]; · iexact Hxp
  isplitl [Hkp]; · iexact Hkp
  iexact Hvp

theorem wp_perm_seq (x k v : FVec F S1024x1024 .f32) {Q : PUnit → sProp 𝕄} : ∀ n i, n + i = 15 →
    perms d x k v i ⊢ iprop((perms d x k v 16 -∗ Q ⟨⟩) -∗ W d (seqTo perm1 n i) Q)
  | 0, i, h => by
    have : i = 15 := by omega
    subst this
    exact wp_perm1 x k v (by decide)
  | n + 1, i, h => by
    show perms d x k v i ⊢ iprop((perms d x k v 16 -∗ Q ⟨⟩) -∗ W d (perm1 i >>= fun _ => seqTo perm1 n (i + 1)) Q)
    rw [W_bind]
    iintro H Hk
    iapply (wp_perm1 x k v (by omega)) $$ H
    iintro H
    iapply (wp_perm_seq x k v n (i + 1) (by omega)) $$ H
    iexact Hk

end

/-! ## One class -/

section
variable {d : Dev nD}

theorem wp_headP {qc : FVec F S256x1024 .f32} {h : Nat} {hh : h < 8} {o : Fin 2 → Nat} {ho : In S256x128.size o} {Q : PUnit → sProp 𝕄}
    (K V C : FVec F S1024x1024 .f32) :
    iprop(own d kpM K ∗ own d vpM V ∗ own d ctxM C)
      ⊢ iprop(((own d kpM K ∗ own d vpM V ∗ own d ctxM (upd C S256x128.size o
          (headOf (extractStridedSlice S256x128 ![0, 128 * h] qc (slice_in h hh)) (win K S256x128.size o ho) (win V S256x128.size o ho)))) -∗ Q ⟨⟩)
      -∗ W d (headP qc h hh o ho) Q) := by
  unfold headP
  simp only [Prog.lift, Prog.bind_op, Prog.bind_ret]
  iintro ⟨HK, HV, HC⟩ Hk
  iapply (wp_load_own K) $$ HK
  iintro HK
  iapply (wp_load_own V) $$ HV
  iintro HV
  iapply (wp_load_own C) $$ HC
  iintro HC
  iapply (wp_store_own C) $$ HC
  iintro HC
  iapply W_done
  iapply Hk
  isplitl [HK]; · iexact HK
  isplitl [HV]; · iexact HV
  rw [shapeCast_self]
  iexact HC

/-- The class-ordered inputs, and the heads of class `c` as far as head `n`. -/
def heads (d : Dev nD) (xp kp vp wq : FVec F S1024x1024 .f32) (c : Fin 4) (n : Nat) : sProp 𝕄 :=
  iprop(own d kpM kp ∗ own d vpM vp ∗ ownsSat (d : Thread nD τ) ctxM fullShare (Heads (headC xp kp vp wq c) c n))

theorem wp_head_step (xp kp vp wq : FVec F S1024x1024 .f32) (c : Fin 4) (h : Fin 8) (n : Nat) (hn : h.val = n) {Q : PUnit → sProp 𝕄} :
    heads d xp kp vp wq c n ⊢ iprop((heads d xp kp vp wq c (n + 1) -∗ Q ⟨⟩)
      -∗ W d (headP (qOf (win xp S256x1024.size (offsC c).row (offsC c).hrow) wq) h.val h.isLt ((offsC c).head h) ((offsC c).hhead h)) Q) := by
  unfold heads
  iintro ⟨HK, HV, HC⟩ Hk
  ihave HC' := (ownsSat_elim (d : Thread nD τ) ctxM fullShare (Heads (headC xp kp vp wq c) c n)) $$ HC
  icases HC' with ⟨%C, %hC, HC⟩
  iapply (wp_headP kp vp C) $$ [HK HV HC]
  · isplitl [HK]; · iexact HK
    isplitl [HV]; · iexact HV
    iexact HC
  iintro ⟨HK, HV, HC⟩
  iapply Hk
  isplitl [HK]; · iexact HK
  isplitl [HV]; · iexact HV
  iapply (ownsSat_intro (d : Thread nD τ) ctxM fullShare (hC.step h hn))
  iexact HC

/-- What the computation of a class holds: the inputs, the weights, some context, and the finished classes `S`. -/
def classes (d : Dev nD) (xp kp vp wq wo : FVec F S1024x1024 .f32) (S : Finset (Fin 4)) : sProp 𝕄 :=
  iprop(own d xpM xp ∗ own d wqM wq ∗ own d woM wo ∗ own d kpM kp ∗ own d vpM vp ∗ ownsSat (d : Thread nD τ) ctxM fullShare (fun _ => True)
    ∗ ownsSat (d : Thread nD τ) partM fullShare (Parts (partC xp kp vp wq wo) S))

theorem win_full (x : FVec F S1024x1024 .f32) : win x S1024x1024.size ![0, 0] in_full = x :=
  funext fun i => congrArg x (ext2 (by show 0 + 1 * (i 0).val = _; omega) (by show 0 + 1 * (i 1).val = _; omega))

theorem wp_classP (xp kp vp wq wo : FVec F S1024x1024 .f32) (S : Finset (Fin 4)) (c : Fin 4) {Q : PUnit → sProp 𝕄} :
    classes d xp kp vp wq wo S ⊢ iprop((classes d xp kp vp wq wo (insert c S) -∗ Q ⟨⟩) -∗ W d (classP (offsC c)) Q) := by
  unfold classP
  simp only [Prog.lift, Prog.bind_op, Prog.bind_ret]
  unfold classes
  iintro ⟨Hxp, Hwq, Hwo, Hkp, Hvp, HC, HP⟩ Hk
  iapply (wp_load_own xp) $$ Hxp
  iintro Hxp
  iapply (wp_load_own wq) $$ Hwq
  iintro Hwq
  rw [show VecWindow.window wq ![0, 0] S1024x1024.size in_full = wq from win_full wq]
  simp only [W_bind]
  ihave HH := (show iprop(own d kpM kp ∗ own d vpM vp ∗ ownsSat (d : Thread nD τ) ctxM fullShare (fun _ => True)) ⊢ heads d xp kp vp wq c 0 from by
    unfold heads
    exact sep_mono_right (sep_mono_right (ownsSat_mono _ _ _ fun X _ => Heads.zero _ c X))) $$ [Hkp Hvp HC]
  · isplitl [Hkp]; · iexact Hkp
    isplitl [Hvp]; · iexact Hvp
    iexact HC
  iapply (wp_head_step xp kp vp wq c 0 0 rfl) $$ HH
  iintro HH
  iapply (wp_head_step xp kp vp wq c 1 1 rfl) $$ HH
  iintro HH
  iapply (wp_head_step xp kp vp wq c 2 2 rfl) $$ HH
  iintro HH
  iapply (wp_head_step xp kp vp wq c 3 3 rfl) $$ HH
  iintro HH
  iapply (wp_head_step xp kp vp wq c 4 4 rfl) $$ HH
  iintro HH
  iapply (wp_head_step xp kp vp wq c 5 5 rfl) $$ HH
  iintro HH
  iapply (wp_head_step xp kp vp wq c 6 6 rfl) $$ HH
  iintro HH
  iapply (wp_head_step xp kp vp wq c 7 7 rfl) $$ HH
  iintro HH
  unfold heads
  icases HH with ⟨Hkp, Hvp, HC⟩
  ihave HC' := (ownsSat_elim (d : Thread nD τ) ctxM fullShare (Heads (headC xp kp vp wq c) c 8)) $$ HC
  icases HC' with ⟨%C, %hC, HC⟩
  ihave HP' := (ownsSat_elim (d : Thread nD τ) partM fullShare (Parts (partC xp kp vp wq wo) S)) $$ HP
  icases HP' with ⟨%T, %hT, HP⟩
  iapply (wp_load_own C) $$ HC
  iintro HC
  rw [show VecWindow.window C (offsC c).row S256x1024.size (offsC c).hrow = ctxC xp kp vp wq c from hC.done]
  iapply (wp_load_own wo) $$ Hwo
  iintro Hwo
  rw [show VecWindow.window wo ![0, 0] S1024x1024.size in_full = wo from win_full wo]
  iapply (wp_load_own T) $$ HP
  iintro HP
  iapply (wp_store_own T) $$ HP
  iintro HP
  iapply W_done
  iapply Hk
  isplitl [Hxp]; · iexact Hxp
  isplitl [Hwq]; · iexact Hwq
  isplitl [Hwo]; · iexact Hwo
  isplitl [Hkp]; · iexact Hkp
  isplitl [Hvp]; · iexact Hvp
  isplitl [HC]
  · iapply (ownsSat_intro (d : Thread nD τ) ctxM fullShare (X := C) trivial)
    iexact HC
  · iapply (ownsSat_intro (d : Thread nD τ) partM fullShare (hT.step c))
    rw [shapeCast_self]
    iexact HP

end

/-! ## The messages -/

section
variable {d : Dev nD} {m : Memref sig .tc .vmem S2x128x1024 .bf16} {hm : m.IsWhole}

/-- The finished classes `S`, of what `g` says. -/
abbrev parts (d : Dev nD) (g : Fin 4 → FVec F S256x1024 .f32) (S : Finset (Fin 4)) : sProp 𝕄 :=
  ownsSat (d : Thread nD τ) partM fullShare (Parts g S)

theorem wp_initP (g : Fin 4 → FVec F S256x1024 .f32) {S : Finset (Fin 4)} {c : Fin 4} (hc : c ∈ S) (u : Fin 2) (v : Msg F) {Q : PUnit → sProp 𝕄} :
    iprop(parts d g S ∗ own d (slotM m 0) v) ⊢ iprop(((parts d g S ∗ own d (slotM m 0) (first (half u (g c)))) -∗ Q ⟨⟩)
      -∗ W d (initP m hm (halfO u c) (half_in u c)) Q) := by
  unfold initP
  simp only [Prog.lift, Prog.bind_op, Prog.bind_ret]
  iintro ⟨HP, HA⟩ Hk
  ihave HP' := (ownsSat_elim (d : Thread nD τ) partM fullShare (Parts g S)) $$ HP
  icases HP' with ⟨%T, %hT, HP⟩
  iapply (wp_load_own T) $$ HP
  iintro HP
  rw [show VecWindow.window T (halfO u c) S128x1024.size (half_in u c) = half u (g c) from hT.half hc u]
  iapply (wp_load_slot v) $$ HA
  iintro HA
  iapply (wp_store_slot v) $$ HA
  iintro HA
  iapply W_done
  iapply Hk
  isplitl [HP]
  · iapply (ownsSat_intro (d : Thread nD τ) partM fullShare hT)
    iexact HP
  · iexact HA

theorem wp_addP (g : Fin 4 → FVec F S256x1024 .f32) {S : Finset (Fin 4)} {c : Fin 4} (hc : c ∈ S) (u r : Fin 2) (v : Msg F) {Q : PUnit → sProp 𝕄} :
    iprop(parts d g S ∗ own d (slotM m r) v) ⊢ iprop(((parts d g S ∗ own d (slotM m r) (accum v (half u (g c)))) -∗ Q ⟨⟩)
      -∗ W d (addP m hm r (halfO u c) (half_in u c)) Q) := by
  unfold addP
  simp only [Prog.lift, Prog.bind_op, Prog.bind_ret]
  iintro ⟨HP, HA⟩ Hk
  ihave HP' := (ownsSat_elim (d : Thread nD τ) partM fullShare (Parts g S)) $$ HP
  icases HP' with ⟨%T, %hT, HP⟩
  iapply (wp_load_slot v) $$ HA
  iintro HA
  rw [shapeCast_shapeCast]
  iapply (wp_load_own T) $$ HP
  iintro HP
  rw [show VecWindow.window T (halfO u c) S128x1024.size (half_in u c) = half u (g c) from hT.half hc u]
  iapply (wp_load_slot v) $$ HA
  iintro HA
  iapply (wp_store_slot v) $$ HA
  iintro HA
  iapply W_done
  iapply Hk
  isplitl [HP]
  · iapply (ownsSat_intro (d : Thread nD τ) partM fullShare hT)
    iexact HP
  · iexact HA

/-- The stored chunks `S`, of what `g` says. -/
abbrev outs (d : Dev nD) (g : Fin 2 → Fin 4 → Msg F) (S : Finset (Fin 2 × Fin 4)) : sProp 𝕄 :=
  ownsSat (d : Thread nD τ) oM fullShare (Outs g S)

theorem wp_storeP (g : Fin 2 → Fin 4 → Msg F) (S : Finset (Fin 2 × Fin 4)) (u : Fin 2) (c : Fin 4) (r : Fin 2) (v : Msg F) (hv : v = g u c) {Q : PUnit → sProp 𝕄} :
    iprop(outs d g S ∗ own d (slotM m r) v) ⊢ iprop(((outs d g (insert (u, c) S) ∗ own d (slotM m r) v) -∗ Q ⟨⟩)
      -∗ W d (storeP m r (outO u c 0) (outO u c 1) (out_in u c 0) (out_in u c 1)) Q) := by
  subst hv
  unfold storeP
  simp only [Prog.lift, Prog.bind_op, Prog.bind_ret]
  iintro ⟨HO, HA⟩ Hk
  ihave HO' := (ownsSat_elim (d : Thread nD τ) oM fullShare (Outs g S)) $$ HO
  icases HO' with ⟨%T, %hT, HO⟩
  iapply (wp_load_slot (g u c)) $$ HA
  iintro HA
  rw [shapeCast_shapeCast]
  iapply (wp_load_own T) $$ HO
  iintro HO
  iapply (wp_store_own T) $$ HO
  iintro HO
  iapply (wp_load_own _) $$ HO
  iintro HO
  iapply (wp_store_own _) $$ HO
  iintro HO
  iapply W_done
  iapply Hk
  isplitl [HO]
  · iapply (ownsSat_intro (d : Thread nD τ) oM fullShare (hT.step u c))
    iexact HO
  · iexact HA

end

end Cert.Ring

end
-- ==== Proof.Protocol.lean ====
/- The protocol of the two rings.

A device's cells are its barrier, and a pair each for the weights' copies, for the sends and the arrivals of ring A, and
for those of ring B. Before step `g` of the rings the two neighbours of a device raise its barrier: the right one hands
over the slot of ring A the step writes to, the left one that of ring B. A send gives its own slot back; an arrival
gives the slot with the message in it, and says that the sender has passed its barrier of that step. -/
module

public import proofs.«01_k».proof.Proof.Local

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## What each device starts from -/

def xS (d : Dev nD) : FVec F S1024x1024 .f32 := (win0_0.blk (0 : Fin 1)).view.read (Elt F) (m ((d : Thread nD τ).loc main_arg0))
def kS (d : Dev nD) : FVec F S1024x1024 .f32 := (win0_1.blk (0 : Fin 1)).view.read (Elt F) (m ((d : Thread nD τ).loc main_arg2))
def vS (d : Dev nD) : FVec F S1024x1024 .f32 := (win0_2.blk (0 : Fin 1)).view.read (Elt F) (m ((d : Thread nD τ).loc main_arg3))
def wqS' (d : Dev nD) : FVec F S1024x1024 .f32 := (wqC d).view.read (Elt F) (m ((d : Thread nD τ).loc main_arg1))
def woS' (d : Dev nD) : FVec F S1024x1024 .f32 := (woC d).view.read (Elt F) (m ((d : Thread nD τ).loc main_arg4))

/-- Device `d`'s share of class `c`. -/
def part (d : Dev nD) (c : Fin 4) : FVec F S256x1024 .f32 := partC (permF (xS m d)) (permF (kS m d)) (permF (vS m d)) (wqS' m d) (woS' m d) c

/-! ## The cells -/

/-- The cells of a device, and the semaphores that are none of them. -/
inductive Cl
  | none
  | bar
  | cp (i : Fin 2)
  | as (i : Fin 2)
  | ar (i : Fin 2)
  | bs (i : Fin 2)
  | br (i : Fin 2)
  deriving DecidableEq

def clDma (n : Nat) : Cl :=
  if n = 4 then .cp 0 else if n = 5 then .cp 1 else if n = 6 then .as 0 else if n = 7 then .as 1 else if n = 8 then .ar 0 else if n = 9 then .ar 1
  else if n = 10 then .bs 0 else if n = 11 then .bs 1 else if n = 12 then .br 0 else if n = 13 then .br 1 else .none

def clOf : SemLoc sig → Cl
  | .reg s => if s = barS then .bar else .none
  | .dma q => clDma q.val

theorem cl_bar : clOf (.reg barS) = .bar := by unfold clOf; exact if_pos rfl
theorem cl_cp (i : Fin 2) : clOf (.dma (cpS i)) = .cp i := by fin_cases i <;> rfl
theorem cl_as (i : Fin 2) : clOf (.dma (asS i)) = .as i := by fin_cases i <;> rfl
theorem cl_ar (i : Fin 2) : clOf (.dma (arS i)) = .ar i := by fin_cases i <;> rfl
theorem cl_bs (i : Fin 2) : clOf (.dma (bsS i)) = .bs i := by fin_cases i <;> rfl
theorem cl_br (i : Fin 2) : clOf (.dma (brS i)) = .br i := by fin_cases i <;> rfl

abbrev barC (d : Dev nD) : GSem nD τ sig := ((d : Thread nD τ), .reg barS)
abbrev cpC (d : Dev nD) (i : Fin 2) : GSem nD τ sig := ((d : Thread nD τ), .dma (cpS i))
abbrev asC (d : Dev nD) (i : Fin 2) : GSem nD τ sig := ((d : Thread nD τ), .dma (asS i))
abbrev arC (d : Dev nD) (i : Fin 2) : GSem nD τ sig := ((d : Thread nD τ), .dma (arS i))
abbrev bsC (d : Dev nD) (i : Fin 2) : GSem nD τ sig := ((d : Thread nD τ), .dma (bsS i))
abbrev brC (d : Dev nD) (i : Fin 2) : GSem nD τ sig := ((d : Thread nD τ), .dma (brS i))

/-- What one message raises its semaphores by; what one weight's copy raises its by. -/
def N : ℕ := (slotM aM 0).view.dmaCredit
def Nw : ℕ := (wqM : Memref sig .tc .vmem S1024x1024 .f32).view.dmaCredit
theorem N_pos : 0 < N := View.dmaCredit_pos _ (by decide)
theorem Nw_pos : 0 < Nw := View.dmaCredit_pos _ (by decide)

/-! ## Steps and slots -/

/-- The slot step `g` sends from, and the one it is received in. -/
def sslot (g : ℕ) : Fin 2 := ⟨g % 2, Nat.mod_lt _ (by decide)⟩
def rslot (g : ℕ) : Fin 2 := ⟨(g + 1) % 2, Nat.mod_lt _ (by decide)⟩
/-- The step whose message is the `j`-th to arrive in slot `r`. -/
def stepOf (r : Fin 2) (j : ℕ) : ℕ := 2 * j + (1 - r.val)

theorem stepOf_rslot (g : ℕ) : stepOf (rslot g) (g / 2) = g := by
  show 2 * (g / 2) + (1 - (g + 1) % 2) = g
  omega
theorem sslot_succ (g : ℕ) : sslot (g + 1) = rslot g := rfl
theorem rslot_succ (g : ℕ) : rslot (g + 1) = sslot g := Fin.ext (by show (g + 1 + 1) % 2 = g % 2; omega)

/-! ## The schedule -/

def rounds : Cl → ℕ
  | .none => 0
  | .bar => 6
  | .cp _ => 1
  | _ => 3

def dut : Cl → Finset Bool
  | .bar => Finset.univ
  | _ => {false}

def amt : Cl → ℕ
  | .none => 1
  | .bar => 1
  | .cp _ => Nw
  | _ => N

theorem amt_pos : ∀ c, 0 < amt c
  | .none => Nat.one_pos
  | .bar => Nat.one_pos
  | .cp _ => Nw_pos
  | .as _ => N_pos
  | .ar _ => N_pos
  | .bs _ => N_pos
  | .br _ => N_pos

/-- A slot handed over to be written, and that its arrivals have come as far as the step's. -/
def slotPay (d : Dev nD) (mm : Memref sig .tc .vmem S2x128x1024 .bf16) (cell : GSem nD τ sig) (r : Fin 2) (j : ℕ) : sProp 𝕄 :=
  iprop((∃ v, own d (slotM mm r) v) ∗ reached ER cell j)

/-- A weight's copy: the buffer with the block in it, and the block back. -/
def wqPay (d : Dev nD) : sProp 𝕄 :=
  iprop(own d wqM (wqS' m d) ∗ ((wqC d).view.loc (d : Thread nD τ) ↦[(wqC d).view.set]{fullShare} (m ((d : Thread nD τ).loc main_arg1))))
def woPay (d : Dev nD) : sProp 𝕄 :=
  iprop(own d woM (woS' m d) ∗ ((woC d).view.loc (d : Thread nD τ) ↦[(woC d).view.set]{fullShare} (m ((d : Thread nD τ).loc main_arg4))))

/-- An arrival: the message, and the sender past its barrier of the step. -/
def recvA (d : Dev nD) (r : Fin 2) (j : ℕ) : sProp 𝕄 :=
  iprop(own d (slotM aM r) (msgA (part m) (stepOf r j) (prv d)) ∗ reached ER (barC (prv d)) (stepOf r j + 1))
def recvB (d : Dev nD) (r : Fin 2) (j : ℕ) : sProp 𝕄 :=
  iprop(own d (slotM bM r) (msgB (part m) (stepOf r j) (nxt d)) ∗ reached ER (barC (nxt d)) (stepOf r j + 1))
/-- A send done: its slot back. -/
def sendPay (d : Dev nD) (mm : Memref sig .tc .vmem S2x128x1024 .bf16) (s : Fin 2) : sProp 𝕄 := iprop(∃ v : Msg F, own d (slotM mm s) v)

def barT (d : Dev nD) (g : ℕ) : sProp 𝕄 := slotPay (F := F) (nxt d) aM (arC (nxt d) (rslot g)) (rslot g) (g / 2)
def barF (d : Dev nD) (g : ℕ) : sProp 𝕄 := slotPay (F := F) (prv d) bM (brC (prv d) (rslot g)) (rslot g) (g / 2)

def pay (d : Dev nD) : Cl → ℕ → Bool → sProp 𝕄
  | .none, _, _ => iprop(emp)
  | .bar, g, true => barT d g
  | .bar, g, false => barF d g
  | .cp i, _, _ => if i = 0 then wqPay m d else woPay m d
  | .as s, _, _ => sendPay d aM s
  | .ar r, j, _ => recvA m d r j
  | .bs s, _, _ => sendPay d bM s
  | .br r, j, _ => recvB m d r j

instance pay_storable (d : Dev nD) (c : Cl) (r : ℕ) (b : Bool) : BI.Storable (upEmb : UEmb _ 𝕄) (pay m d c r b) := by
  unfold pay
  split <;> (try unfold barT) <;> (try unfold barF) <;> (try unfold slotPay) <;> (try unfold wqPay woPay) <;> (try unfold sendPay) <;> (try unfold recvA)
    <;> (try unfold recvB) <;> (try split) <;> infer_instance

/-- The rounds of every cell. -/
def Rd : Rounds.Schedule (GSem nD τ sig) Bool 𝕄 where
  duties g r := if g.1.2 = .tc ∧ r < rounds (clOf g.2) then dut (clOf g.2) else ∅
  unitless _ := False
  amount g _ _ := amt (clOf g.2)
  payload g r b := pay m g.1.1 (clOf g.2) r b
  amount_pos g _ _ _ := by
    exact amt_pos _

instance Rd_storable (g : GSem nD τ sig) (r : ℕ) (b : Bool) : BI.Storable (upEmb : UEmb _ 𝕄) ((Rd m).payload g r b) := by
  show BI.Storable upEmb (pay m g.1.1 (clOf g.2) r b)
  infer_instance

section Tables

theorem duties_of (d : Dev nD) {sm : SemLoc sig} {c : Cl} (hc : clOf sm = c) {r : ℕ} (hr : r < rounds c) :
    (Rd m).duties ((d : Thread nD τ), sm) r = dut c := by
  show (if _ then _ else _) = _
  subst hc
  exact if_pos ⟨rfl, hr⟩

theorem duties_later (d : Dev nD) {sm : SemLoc sig} {c : Cl} (hc : clOf sm = c) {R : ℕ} (hR : rounds c ≤ R) :
    ∀ r, R ≤ r → (Rd m).duties ((d : Thread nD τ), sm) r = ∅ := fun r hr => by
  show (if _ then _ else _) = _
  subst hc
  exact if_neg fun h => absurd h.2 (Nat.not_lt.mpr (hR.trans hr))

theorem amount_of (d : Dev nD) {sm : SemLoc sig} {c : Cl} (hc : clOf sm = c) (r : ℕ) (b : Bool) :
    (Rd m).amount ((d : Thread nD τ), sm) r b = amt c := by
  show amt (clOf sm) = _
  rw [hc]

theorem payload_of (d : Dev nD) {sm : SemLoc sig} {c : Cl} (hc : clOf sm = c) (r : ℕ) (b : Bool) :
    (Rd m).payload ((d : Thread nD τ), sm) r b = pay m d c r b := by
  show pay m d (clOf sm) r b = _
  rw [hc]

theorem expect_bar (d : Dev nD) {g : ℕ} (hg : g < 6) : (Rd m).expect (barC d) g = 2 := by
  unfold Schedule.expect Schedule.amountOf
  rw [duties_of m d cl_bar hg, Finset.sum_congr rfl fun b _ => amount_of m d cl_bar g b]
  rfl

theorem expect_of (d : Dev nD) {sm : SemLoc sig} {c : Cl} (hc : clOf sm = c) {r : ℕ} (hr : r < rounds c) (hd : dut c = {false}) :
    (Rd m).expect ((d : Thread nD τ), sm) r = amt c := by
  unfold Schedule.expect Schedule.amountOf
  rw [duties_of m d hc hr, hd, Finset.sum_singleton, amount_of m d hc]

theorem rest_bar (d : Dev nD) {g : ℕ} (hg : g < 6) :
    bigSep ((Rd m).duties (barC d) g \ ∅) (fun b => (Rd m).payload (barC d) g b) = (iprop(barF d g ∗ barT d g) : sProp 𝕄) := by
  rw [Finset.sdiff_empty, duties_of m d cl_bar hg, show dut .bar = Finset.univ from rfl, bigSep_univ_eq_bigSepL [false, true] (by decide) (by decide), bigSepL_cons_cons, bigSepL_singleton,
    payload_of m d cl_bar, payload_of m d cl_bar]
  rfl

theorem rest_of (d : Dev nD) {sm : SemLoc sig} {c : Cl} (hc : clOf sm = c) {r : ℕ} (hr : r < rounds c) (hd : dut c = {false}) :
    bigSep ((Rd m).duties ((d : Thread nD τ), sm) r \ ∅) (fun b => (Rd m).payload ((d : Thread nD τ), sm) r b) = pay m d c r false := by
  rw [Finset.sdiff_empty, duties_of m d hc hr, hd, bigSep_singleton, payload_of m d hc]

end Tables

/-! ## What a device owes, and the levels -/

/-- What a device owes the cells of step `g` once its signals of that step are given: the two messages. -/
def owedMsg (d : Dev nD) (g : ℕ) : CellTallies nD τ sig ℕ := tallyAt (brC (prv d) (rslot g)) g N + tallyAt (arC (nxt d) (rslot g)) g N

/-- What device `d` owes for the `n` steps from step `g` on, in the order it pays. -/
def owed (d : Dev nD) : ℕ → ℕ → CellTallies nD τ sig ℕ
  | 0, _ => 0
  | n + 1, g => owed d n (g + 1) + tallyAt (brC (prv d) (rslot g)) g N + tallyAt (arC (nxt d) (rslot g)) g N
      + tallyAt (barC (nxt d)) g 1 + tallyAt (barC (prv d)) g 1

def L (g : GSem nD τ sig) : Finset ℕ := if g.1.2 = .tc then Finset.range 6 else ∅
/-- A step's barrier comes before its arrivals, and those before the next step's barrier; nothing else is waited for under debt. -/
def lv (g : GSem nD τ sig) (i : ℕ) : ℕ :=
  match clOf g.2 with
  | .bar => 2 * i + 1
  | .ar _ => 2 * i + 2
  | .br _ => 2 * i + 2
  | _ => 0

theorem L_of_ne (g : GSem nD τ sig) (h : g.1.2 ≠ .tc) : L g = ∅ := if_neg h
theorem L_tc (d : Dev nD) (sm : SemLoc sig) : L ((d : Thread nD τ), sm) = Finset.range 6 := if_pos rfl

theorem lv_bar (d : Dev nD) (i : ℕ) : lv (barC d) i = 2 * i + 1 := by unfold lv; rw [cl_bar]
theorem lv_ar (d : Dev nD) (r : Fin 2) (i : ℕ) : lv (arC d r) i = 2 * i + 2 := by unfold lv; rw [cl_ar]
theorem lv_br (d : Dev nD) (r : Fin 2) (i : ℕ) : lv (brC d r) i = 2 * i + 2 := by unfold lv; rw [cl_br]

/-- Every debt is to a cell of a device, at a step from `a` to 5, at a level above `b`. -/
def Above (a b : ℕ) (O : CellTallies nD τ sig ℕ) : Prop :=
  ∀ (g : GSem nD τ sig) (i : ℕ), 0 < O g i → g.1.2 = .tc ∧ a ≤ i ∧ i < 6 ∧ b < lv g i

theorem Above.zero (a b : ℕ) : Above a b 0 := fun g i h => absurd h (Nat.lt_irrefl 0)

theorem Above.add {a b : ℕ} {O : CellTallies nD τ sig ℕ} (h : Above a b O) {g₀ : GSem nD τ sig} {i₀ k : ℕ} (h1 : g₀.1.2 = .tc) (h2 : a ≤ i₀) (h3 : i₀ < 6)
    (h4 : b < lv g₀ i₀) : Above a b (O + tallyAt g₀ i₀ k) := fun g i hg => by
  rw [Pi.add_apply, Finsupp.add_apply, tallyAt_apply] at hg
  by_cases e : g = g₀ ∧ i = i₀
  · obtain ⟨rfl, rfl⟩ := e
    exact ⟨h1, h2, h3, h4⟩
  · rw [if_neg e, Nat.add_zero] at hg
    exact h g i hg

theorem Above.mono {a a' b b' : ℕ} {O : CellTallies nD τ sig ℕ} (h : Above a b O) (ha : a' ≤ a) (hb : b' ≤ b) : Above a' b' O := fun g i hg =>
  let ⟨h1, h2, h3, h4⟩ := h g i hg
  ⟨h1, ha.trans h2, h3, lt_of_le_of_lt hb h4⟩

theorem above_owed (d : Dev nD) : ∀ n g, n + g ≤ 6 → Above g (2 * g) (owed d n g)
  | 0, g, _ => Above.zero _ _
  | n + 1, g, h => by
    have ih := (above_owed d n (g + 1) (by omega)).mono (a' := g) (b' := 2 * g) (by omega) (by omega)
    exact (((ih.add rfl le_rfl (by omega) (by rw [lv_br]; omega)).add rfl le_rfl (by omega) (by rw [lv_ar]; omega)).add rfl le_rfl (by omega) (by rw [lv_bar]; omega)).add
      rfl le_rfl (by omega) (by rw [lv_bar]; omega)

theorem mayWait_of (d : Dev nD) (sm : SemLoc sig) {i a b : ℕ} (hi : i < 6) {O : CellTallies nD τ sig ℕ} (hO : Above a b O) (hb : lv ((d : Thread nD τ), sm) i ≤ b) :
    (levAts L lv : sProp 𝕄) ⊢ MayWait (d : Thread nD τ) sm i O :=
  MayOwe.of_cut (L := L) (lev := lv) b
    (fun p hp => by rw [Finset.mem_singleton.mp hp, L_tc]; exact Finset.mem_range.mpr hi)
    (fun g j hg => by
      have := hO g j hg
      unfold L; rw [if_pos this.1]; exact Finset.mem_range.mpr this.2.2.1)
    (fun p hp => by rw [Finset.mem_singleton.mp hp]; exact hb)
    (fun g j hg => (hO g j hg).2.2.2)

/-! ## What a device holds -/

/-- The cells of a device, numbered. -/
def csem (k : Fin 11) : SemLoc sig := if h : k.val = 0 then .reg barS else .dma ⟨3 + k.val, by have := k.isLt; show 3 + k.val < 14; omega⟩
abbrev kcell (dk : Dev nD × Fin 11) : GSem nD τ sig := ((dk.1 : Thread nD τ), csem dk.2)

theorem csem_cp (i : Fin 2) : csem ⟨1 + i.val, by omega⟩ = .dma (cpS i) := by fin_cases i <;> rfl
theorem csem_as (i : Fin 2) : csem ⟨3 + i.val, by omega⟩ = .dma (asS i) := by fin_cases i <;> rfl
theorem csem_ar (i : Fin 2) : csem ⟨5 + i.val, by omega⟩ = .dma (arS i) := by fin_cases i <;> rfl
theorem csem_bs (i : Fin 2) : csem ⟨7 + i.val, by omega⟩ = .dma (bsS i) := by fin_cases i <;> rfl
theorem csem_br (i : Fin 2) : csem ⟨9 + i.val, by omega⟩ = .dma (brS i) := by fin_cases i <;> rfl

/-- Every cell's invariant, under the names `K`, and that every cell has reached its first round. -/
def records (K : Dev nD × Fin 11 → ℕ) : sProp 𝕄 :=
  iprop((bigSep Finset.univ fun ck : Dev nD × Fin 11 => cellInv ER (Rd m) (K ck) (kcell ck)) ∗ bigSep Finset.univ fun ck : Dev nD × Fin 11 => reached ER (kcell ck) 0)

instance records_persistent (K : Dev nD × Fin 11 → ℕ) : BI.Persistent (records m K) := by unfold records; infer_instance

theorem inv_all (K : Dev nD × Fin 11 → ℕ) (ck : Dev nD × Fin 11) :
    (bigSep Finset.univ fun ck : Dev nD × Fin 11 => (cellInv ER (Rd m) (K ck) (kcell ck) : sProp 𝕄)) ⊢ cellInv ER (Rd m) (K ck) (kcell ck) :=
  bigSep_elim (Finset.mem_univ ck)
omit [FloatOps F] in
theorem reached_all (ck : Dev nD × Fin 11) : (bigSep Finset.univ fun ck : Dev nD × Fin 11 => (reached ER (kcell ck) 0 : sProp 𝕄)) ⊢ reached ER (kcell ck) 0 :=
  bigSep_elim (Finset.mem_univ ck)

theorem inv_at (K : Dev nD × Fin 11 → ℕ) (ck : Dev nD × Fin 11) : records m K ⊢ cellInv ER (Rd m) (K ck) (kcell ck) := by
  unfold records
  iintro ⟨H, -⟩
  iapply (inv_all m K ck) $$ [H]
  iexact H
theorem reached_at (K : Dev nD × Fin 11 → ℕ) (ck : Dev nD × Fin 11) : records m K ⊢ (reached ER (kcell ck) 0 : sProp 𝕄) := by
  unfold records
  iintro ⟨-, H⟩
  iapply (reached_all (F := F) ck) $$ [H]
  iexact H

section Named
variable (K : Dev nD × Fin 11 → ℕ) (d : Dev nD) (i : Fin 2)

abbrev kBar : ℕ := K (d, 0)
abbrev kCp : ℕ := K (d, ⟨1 + i.val, by omega⟩)
abbrev kAs : ℕ := K (d, ⟨3 + i.val, by omega⟩)
abbrev kAr : ℕ := K (d, ⟨5 + i.val, by omega⟩)
abbrev kBs : ℕ := K (d, ⟨7 + i.val, by omega⟩)
abbrev kBr : ℕ := K (d, ⟨9 + i.val, by omega⟩)

theorem inv_bar : records m K ⊢ cellInv ER (Rd m) (kBar K d) (barC d) := inv_at m K (d, 0)
theorem inv_cp : records m K ⊢ cellInv ER (Rd m) (kCp K d i) (cpC d i) := by have := inv_at m K (d, ⟨1 + i.val, by omega⟩); unfold kcell at this; rwa [csem_cp] at this
theorem inv_as : records m K ⊢ cellInv ER (Rd m) (kAs K d i) (asC d i) := by have := inv_at m K (d, ⟨3 + i.val, by omega⟩); unfold kcell at this; rwa [csem_as] at this
theorem inv_ar : records m K ⊢ cellInv ER (Rd m) (kAr K d i) (arC d i) := by have := inv_at m K (d, ⟨5 + i.val, by omega⟩); unfold kcell at this; rwa [csem_ar] at this
theorem inv_bs : records m K ⊢ cellInv ER (Rd m) (kBs K d i) (bsC d i) := by have := inv_at m K (d, ⟨7 + i.val, by omega⟩); unfold kcell at this; rwa [csem_bs] at this
theorem inv_br : records m K ⊢ cellInv ER (Rd m) (kBr K d i) (brC d i) := by have := inv_at m K (d, ⟨9 + i.val, by omega⟩); unfold kcell at this; rwa [csem_br] at this

theorem reached_bar : records m K ⊢ (reached ER (barC d) 0 : sProp 𝕄) := reached_at m K (d, 0)
theorem reached_cp : records m K ⊢ (reached ER (cpC d i) 0 : sProp 𝕄) := by have := reached_at m K (d, ⟨1 + i.val, by omega⟩); unfold kcell at this; rwa [csem_cp] at this
theorem reached_as : records m K ⊢ (reached ER (asC d i) 0 : sProp 𝕄) := by have := reached_at m K (d, ⟨3 + i.val, by omega⟩); unfold kcell at this; rwa [csem_as] at this
theorem reached_ar : records m K ⊢ (reached ER (arC d i) 0 : sProp 𝕄) := by have := reached_at m K (d, ⟨5 + i.val, by omega⟩); unfold kcell at this; rwa [csem_ar] at this
theorem reached_bs : records m K ⊢ (reached ER (bsC d i) 0 : sProp 𝕄) := by have := reached_at m K (d, ⟨7 + i.val, by omega⟩); unfold kcell at this; rwa [csem_bs] at this
theorem reached_br : records m K ⊢ (reached ER (brC d i) 0 : sProp 𝕄) := by have := reached_at m K (d, ⟨9 + i.val, by omega⟩); unfold kcell at this; rwa [csem_br] at this

end Named

/-- A position together with the mark that it has been reached. -/
def at' (g : GSem nD τ sig) (R : ℕ) : sProp 𝕄 := iprop(atPos ER g R ∅ 0 ∗ reached ER g R)

/-- The tokens of the duties device `d` pays at step `g`, and the credit it waits with. -/
def stepRes (d : Dev nD) (g : ℕ) : sProp 𝕄 :=
  iprop((dutyTok ER (barC (prv d)) g true ∗ dutyTok ER (barC (nxt d)) g false
      ∗ dutyTok ER (asC d (sslot g)) (g / 2) false ∗ dutyTok ER (arC (nxt d) (rslot g)) (g / 2) false
      ∗ dutyTok ER (bsC d (sslot g)) (g / 2) false ∗ dutyTok ER (brC (prv d) (rslot g)) (g / 2) false)
    ∗ cred (tallyAt (barC d) g 2) ∗ cred (tallyAt (arC d (rslot g)) g N) ∗ cred (tallyAt (brC d (rslot g)) g N))

/-- Device `d`'s positions before step `g`. -/
def posns (d : Dev nD) (g : ℕ) : sProp 𝕄 :=
  iprop(at' (barC d) g
    ∗ (at' (asC d (sslot g)) (g / 2) ∗ at' (asC d (rslot g)) ((g + 1) / 2)) ∗ (at' (arC d (rslot g)) (g / 2) ∗ at' (arC d (sslot g)) ((g + 1) / 2))
    ∗ (at' (bsC d (sslot g)) (g / 2) ∗ at' (bsC d (rslot g)) ((g + 1) / 2)) ∗ (at' (brC d (rslot g)) (g / 2) ∗ at' (brC d (sslot g)) ((g + 1) / 2)))

end Cert.Ring

end
-- ==== Proof.Step.lean ====
/- The moves of the rings, each at a symbolic step: the handshake, the sends, the waits; and the fetches of the weights. -/
module

public import proofs.«01_k».proof.Proof.Protocol

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 11 → ℕ)

theorem credit_A (i : Fin 2) : (slotM aM i).view.dmaCredit = N := rfl
theorem credit_B (i : Fin 2) : (slotM bM i).view.dmaCredit = N := rfl
theorem credit_wq : (wqM : Memref sig .tc .vmem S1024x1024 .f32).view.dmaCredit = Nw := rfl
theorem credit_wo : (woM : Memref sig .tc .vmem S1024x1024 .f32).view.dmaCredit = Nw := rfl

/-! ## What a device holds between the moves -/

/-- Debt `O`, whatever has been waited for. -/
def debt (d : Dev nD) (O : CellTallies nD τ sig ℕ) : sProp 𝕄 := iprop(∃ Ws : Waits sig ℕ, owes (d : Thread nD τ) O Ws)

/-- The resources of the `n` steps from `g` on. -/
def resFrom (d : Dev nD) : ℕ → ℕ → sProp 𝕄
  | 0, _ => iprop(emp)
  | n + 1, g => iprop(stepRes d g ∗ resFrom d n (g + 1))

theorem resFrom_succ (d : Dev nD) (n g : ℕ) : (resFrom d (n + 1) g : sProp 𝕄) = iprop(stepRes d g ∗ resFrom d n (g + 1)) := rfl
theorem owed_succ (d : Dev nD) (n g : ℕ) : owed d (n + 1) g = owed d n (g + 1) + tallyAt (brC (prv d) (rslot g)) g N + tallyAt (arC (nxt d) (rslot g)) g N
      + tallyAt (barC (nxt d)) g 1 + tallyAt (barC (prv d)) g 1 := rfl

/-- A slot of which nothing more is known. -/
def some' (d : Dev nD) (mm : Memref sig .tc .vmem S128x1024 .bf16) : sProp 𝕄 := iprop(∃ v : Msg F, own d mm v)

/-- The positions at the rings' transfer cells, before step `g`. -/
def ringAt (d : Dev nD) (g : ℕ) : sProp 𝕄 :=
  iprop((at' (asC d (sslot g)) (g / 2) ∗ at' (asC d (rslot g)) ((g + 1) / 2)) ∗ (at' (arC d (rslot g)) (g / 2) ∗ at' (arC d (sslot g)) ((g + 1) / 2))
    ∗ (at' (bsC d (sslot g)) (g / 2) ∗ at' (bsC d (rslot g)) ((g + 1) / 2)) ∗ (at' (brC d (rslot g)) (g / 2) ∗ at' (brC d (sslot g)) ((g + 1) / 2)))

/-- Before step `g`, `n` steps to go. -/
def ready (d : Dev nD) (n g : ℕ) : sProp 𝕄 :=
  iprop(at' (barC d) g ∗ ringAt d g ∗ resFrom d n g ∗ debt d (owed d n g)
    ∗ (reached ER (barC (prv d)) g ∗ reached ER (barC (nxt d)) g) ∗ some' d (slotM aM (rslot g)) ∗ some' d (slotM bM (rslot g)))

/-- Step `g` opened: the neighbours' slots are here. -/
def opened (d : Dev nD) (n g : ℕ) : sProp 𝕄 :=
  iprop(at' (barC d) (g + 1) ∗ ringAt d g ∗ resFrom d n (g + 1) ∗ debt d (owed d n (g + 1) + tallyAt (brC (prv d) (rslot g)) g N + tallyAt (arC (nxt d) (rslot g)) g N)
    ∗ (slotPay (nxt d) aM (arC (nxt d) (rslot g)) (rslot g) (g / 2) ∗ slotPay (prv d) bM (brC (prv d) (rslot g)) (rslot g) (g / 2))
    ∗ (dutyTok ER (asC d (sslot g)) (g / 2) false ∗ dutyTok ER (arC (nxt d) (rslot g)) (g / 2) false
      ∗ dutyTok ER (bsC d (sslot g)) (g / 2) false ∗ dutyTok ER (brC (prv d) (rslot g)) (g / 2) false)
    ∗ cred (tallyAt (arC d (rslot g)) g N) ∗ cred (tallyAt (brC d (rslot g)) g N))

/-- Step `g`'s messages on their way. -/
def sent (d : Dev nD) (n g : ℕ) : sProp 𝕄 :=
  iprop(at' (barC d) (g + 1) ∗ ringAt d g ∗ resFrom d n (g + 1) ∗ debt d (owed d n (g + 1))
    ∗ cred (tallyAt (asC d (sslot g)) 0 N) ∗ cred (tallyAt (bsC d (sslot g)) 0 N)
    ∗ cred (tallyAt (arC d (rslot g)) g N) ∗ cred (tallyAt (brC d (rslot g)) g N))

/-- The messages of step `g` here. -/
def arrived (d : Dev nD) (g : ℕ) : sProp 𝕄 :=
  iprop(own d (slotM aM (rslot g)) (msgA (part m) g (prv d)) ∗ own d (slotM bM (rslot g)) (msgB (part m) g (nxt d)))

/-- The messages step `g` sends. -/
def outgoing (d : Dev nD) (g : ℕ) : sProp 𝕄 :=
  iprop(own d (slotM aM (sslot g)) (msgA (part m) g d) ∗ own d (slotM bM (sslot g)) (msgB (part m) g d))

theorem step_lt {g : ℕ} (hg : g < 6) : g / 2 < 3 := by omega

variable {d : Dev nD} {n g : ℕ}

/-! ## The handshake -/

theorem wp_shake {Q : PUnit → sProp 𝕄} (h : n + 1 + g = 6) :
    iprop(records m K ∗ levAts L lv ∗ ready d (n + 1) g) ⊢ iprop((opened d n g -∗ Q ⟨⟩) -∗ W d (shakeP (prv d) (nxt d)) Q) := by
  have hg : g < 6 := by omega
  unfold shakeP
  simp only [semSignalWord, semWaitWord, Prog.lift, Prog.bind_op, Prog.bind_ret]
  unfold ready opened
  rw [resFrom_succ, owed_succ]
  unfold ringAt at' stepRes debt some'
  iintro ⟨#HR, #Hlev, ⟨HB, #HrB⟩, ⟨HAS, ⟨⟨HAR, #HrAR⟩, HAR'⟩, HBS, ⟨⟨HBR, #HrBR⟩, HBR'⟩⟩, ⟨⟨⟨HtT, HtF, HtS⟩, HcB, HcA, HcBr⟩, Hres⟩, ⟨%Ws, HO⟩, ⟨#HrP, #HrN⟩, HA, HBslot⟩ Hk
  iapply (Rounds.wp_signal 𝒱₀ ER (Rd m) (d : Thread nD τ) none (dst := (prv d : Thread nD τ)) (κ := kBar K (prv d)) (d := true)
      (by rw [duties_of m (prv d) cl_bar hg]; exact Finset.mem_univ _) ((amount_of m (prv d) cl_bar g true).trans (by decide)) g
      (owed d n (g + 1) + tallyAt (brC (prv d) (rslot g)) g N + tallyAt (arC (nxt d) (rslot g)) g N + tallyAt (barC (nxt d)) g 1) rfl) $$ [HO HtT HA]
  · isplitr; · iapply (inv_bar m K (prv d)); iexact HR
    isplitl [HO]; · iexact HO
    isplitl [HtT]; · iexact HtT
    isplitl [HA]
    · rw [payload_of m (prv d) cl_bar]
      unfold pay barT slotPay
      rw [nxt_prv]
      isplitl [HA]; · iexact HA
      iexact HrAR
    · iexact HrP
  iintro HO
  iapply (Rounds.wp_signal 𝒱₀ ER (Rd m) (d : Thread nD τ) none (dst := (nxt d : Thread nD τ)) (κ := kBar K (nxt d)) (d := false)
      (by rw [duties_of m (nxt d) cl_bar hg]; exact Finset.mem_univ _) ((amount_of m (nxt d) cl_bar g false).trans (by decide)) g
      (owed d n (g + 1) + tallyAt (brC (prv d) (rslot g)) g N + tallyAt (arC (nxt d) (rslot g)) g N) rfl) $$ [HO HtF HBslot]
  · isplitr; · iapply (inv_bar m K (nxt d)); iexact HR
    isplitl [HO]; · iexact HO
    isplitl [HtF]; · iexact HtF
    isplitl [HBslot]
    · rw [payload_of m (nxt d) cl_bar]
      unfold pay barF slotPay
      rw [prv_nxt]
      isplitl [HBslot]; · iexact HBslot
      iexact HrBR
    · iexact HrN
  iintro HO
  iapply (Rounds.wp_wait_rest_token 𝒱₀ ER (Rd m) (d : Thread nD τ) none (κ := kBar K d)
      (wpE_semWait_eq 𝒱₀ (d : Thread nD τ) none Set.univ) (Set.mem_univ _) g (O := owed d n (g + 1) + tallyAt (brC (prv d) (rslot g)) g N + tallyAt (arC (nxt d) (rslot g)) g N)
      (W := Ws) (R := g) (m := 0) (T := ∅)
      (by rw [expect_bar m d hg]; decide)) $$ [HcB HO HB]
  · isplitr; · iapply (inv_bar m K d); iexact HR
    isplitl [HcB]; · iexact HcB
    isplitl [HO]; · iexact HO
    isplitr
    · iapply (mayWait_of (F := F) d (.reg barS) (a := g) (b := 2 * g + 1) hg
        (((above_owed d n (g + 1) (by omega)).mono (a' := g) (b' := 2 * g + 1) (by omega) (by omega)).add rfl le_rfl hg (by rw [lv_br]; omega) |>.add rfl le_rfl hg (by rw [lv_ar]; omega))
        (by rw [lv_bar])) $$ [Hlev]
      iexact Hlev
    iexact HB
  iintro ⟨HO, HB, #HrB', Hpay⟩
  ihave Hp := (Entails.of_eq (rest_bar m d hg)) $$ Hpay
  unfold barF barT
  icases Hp with ⟨HpB, HpA⟩
  iapply W_done
  iapply Hk
  isplitl [HB]; · isplitl [HB]; · iexact HB
                  iexact HrB'
  isplitl [HAS HAR HAR' HBS HBR HBR']
  · isplitl [HAS]; · iexact HAS
    isplitl [HAR HAR']
    · isplitl [HAR]
      · isplitl [HAR]; · iexact HAR
        iexact HrAR
      iexact HAR'
    isplitl [HBS]; · iexact HBS
    isplitl [HBR]
    · isplitl [HBR]; · iexact HBR
      iexact HrBR
    iexact HBR'
  isplitl [Hres]; · iexact Hres
  isplitl [HO]; · iexists _; iexact HO
  isplitl [HpA HpB]
  · isplitl [HpA] <;> iassumption
  isplitl [HtS]; · iexact HtS
  isplitl [HcA] <;> iassumption

/-! ## The sends -/

theorem wp_sendA {Ws : Waits sig ℕ} (O : CellTallies nD τ sig ℕ) (hg : g < 6) (v : Msg F) {Q : PUnit → sProp 𝕄} (hv : v = msgA (part m) g d) :
    iprop(records m K ∗ own d (slotM aM (sslot g)) v ∗ slotPay (nxt d) aM (arC (nxt d) (rslot g)) (rslot g) (g / 2)
        ∗ owes (d : Thread nD τ) (O + tallyAt (arC (nxt d) (rslot g)) g N) Ws ∗ reached ER (barC d) (g + 1)
        ∗ dutyTok ER (asC d (sslot g)) (g / 2) false ∗ reached ER (asC d (sslot g)) (g / 2) ∗ dutyTok ER (arC (nxt d) (rslot g)) (g / 2) false)
      ⊢ iprop(((cred (tallyAt (asC d (sslot g)) 0 N) ∗ owes (d : Thread nD τ) O Ws) -∗ Q ⟨⟩) -∗ W d (sendA (sslot g) (rslot g) (nxt d)) Q) := by
  subst hv
  unfold sendA sendP
  simp only [Prog.lift, Prog.bind_op, Prog.bind_ret]
  unfold slotPay own owns
  iintro ⟨#HR, ⟨%fs, %hfs, Hs⟩, ⟨⟨%v, %fd, %hfd, Hd⟩, #HrD⟩, HO, #HrB, Ht1, #Hr1, Ht2⟩ Hk
  iapply (Rounds.wp_send_pointsTo_with 𝒱₀ ER (Rd m) (d : Thread nD τ) none (κ₁ := kAs K d (sslot g)) (κ₂ := kAr K (nxt d) (rslot g))
    (r₁ := g / 2) (r₂ := g / 2) (d₁ := false) (d₂ := false) (fd := fd) (F := reached ER (barC d) (g + 1))
    (by rw [duties_of m d (cl_as _) (step_lt hg)]; exact Finset.mem_singleton_self _) (by rw [duties_of m (nxt d) (cl_ar _) (step_lt hg)]; exact Finset.mem_singleton_self _)
    g 0 N (by rw [View.amount_dma]; exact credit_A _) (amount_of m d (cl_as _) _ _) (amount_of m (nxt d) (cl_ar _) _ _) O rfl (W := Ws)
    (by rw [payload_of m d (cl_as _)]
        show _ ⊢ sendPay d aM _
        unfold sendPay own owns
        iintro H
        iexists _; iexists fs
        isplitr; · ipureintro; rfl
        iexact H)
    (by rw [payload_of m (nxt d) (cl_ar _)]
        show _ ⊢ recvA m _ _ _
        unfold recvA own owns
        rw [stepOf_rslot, prv_nxt]
        iintro ⟨H, Hr⟩
        isplitl [H]
        · iexists _
          isplitr
          swap; · iexact H
          ipureintro
          rw [View.read_write_univ, hfs]
        iexact Hr)) $$ [Hs Hd HO Ht1 Ht2]
  · isplitr; · iapply (inv_as m K d (sslot g)); iexact HR
    isplitr; · iapply (inv_ar m K (nxt d) (rslot g)); iexact HR
    isplitl [Hs]; · iexact Hs
    isplitl [Hd]
    · isplitl [Hd]; · iexact Hd
      iexact HrB
    isplitl [HO]; · iexact HO
    isplitl [Ht1]; · iexact Ht1
    isplitr; · iexact Hr1
    isplitl [Ht2]; · iexact Ht2
    iexact HrD
  iintro H
  iapply W_done
  iapply Hk
  iexact H

theorem wp_sendB {Ws : Waits sig ℕ} (O : CellTallies nD τ sig ℕ) (hg : g < 6) (v : Msg F) {Q : PUnit → sProp 𝕄} (hv : v = msgB (part m) g d) :
    iprop(records m K ∗ own d (slotM bM (sslot g)) v ∗ slotPay (prv d) bM (brC (prv d) (rslot g)) (rslot g) (g / 2)
        ∗ owes (d : Thread nD τ) (O + tallyAt (brC (prv d) (rslot g)) g N) Ws ∗ reached ER (barC d) (g + 1)
        ∗ dutyTok ER (bsC d (sslot g)) (g / 2) false ∗ reached ER (bsC d (sslot g)) (g / 2) ∗ dutyTok ER (brC (prv d) (rslot g)) (g / 2) false)
      ⊢ iprop(((cred (tallyAt (bsC d (sslot g)) 0 N) ∗ owes (d : Thread nD τ) O Ws) -∗ Q ⟨⟩) -∗ W d (sendB (sslot g) (rslot g) (prv d)) Q) := by
  subst hv
  unfold sendB sendP
  simp only [Prog.lift, Prog.bind_op, Prog.bind_ret]
  unfold slotPay own owns
  iintro ⟨#HR, ⟨%fs, %hfs, Hs⟩, ⟨⟨%v, %fd, %hfd, Hd⟩, #HrD⟩, HO, #HrB, Ht1, #Hr1, Ht2⟩ Hk
  iapply (Rounds.wp_send_pointsTo_with 𝒱₀ ER (Rd m) (d : Thread nD τ) none (κ₁ := kBs K d (sslot g)) (κ₂ := kBr K (prv d) (rslot g))
    (r₁ := g / 2) (r₂ := g / 2) (d₁ := false) (d₂ := false) (fd := fd) (F := reached ER (barC d) (g + 1))
    (by rw [duties_of m d (cl_bs _) (step_lt hg)]; exact Finset.mem_singleton_self _) (by rw [duties_of m (prv d) (cl_br _) (step_lt hg)]; exact Finset.mem_singleton_self _)
    g 0 N (by rw [View.amount_dma]; exact credit_B _) (amount_of m d (cl_bs _) _ _) (amount_of m (prv d) (cl_br _) _ _) O rfl (W := Ws)
    (by rw [payload_of m d (cl_bs _)]
        show _ ⊢ sendPay d bM _
        unfold sendPay own owns
        iintro H
        iexists _; iexists fs
        isplitr; · ipureintro; rfl
        iexact H)
    (by rw [payload_of m (prv d) (cl_br _)]
        show _ ⊢ recvB m _ _ _
        unfold recvB own owns
        rw [stepOf_rslot, nxt_prv]
        iintro ⟨H, Hr⟩
        isplitl [H]
        · iexists _
          isplitr
          swap; · iexact H
          ipureintro
          rw [View.read_write_univ, hfs]
        iexact Hr)) $$ [Hs Hd HO Ht1 Ht2]
  · isplitr; · iapply (inv_bs m K d (sslot g)); iexact HR
    isplitr; · iapply (inv_br m K (prv d) (rslot g)); iexact HR
    isplitl [Hs]; · iexact Hs
    isplitl [Hd]
    · isplitl [Hd]; · iexact Hd
      iexact HrB
    isplitl [HO]; · iexact HO
    isplitl [Ht1]; · iexact Ht1
    isplitr; · iexact Hr1
    isplitl [Ht2]; · iexact Ht2
    iexact HrD
  iintro H
  iapply W_done
  iapply Hk
  iexact H

/-- The sends of a step. -/
theorem wp_sends (hg : g < 6) {Q : PUnit → sProp 𝕄} :
    iprop(records m K ∗ opened d n g ∗ outgoing m d g) ⊢ iprop((sent d n g -∗ Q ⟨⟩) -∗ W d (sends d (sslot g) (rslot g)) Q) := by
  unfold sends opened sent outgoing debt ringAt at'
  rw [W_bind]
  iintro ⟨#HR, ⟨⟨HB, #HrB⟩, ⟨⟨⟨HAS, #HrAS⟩, HAS'⟩, HAR, ⟨⟨HBS, #HrBS⟩, HBS'⟩, HBR⟩, Hres, ⟨%Ws, HO⟩, ⟨HdA, HdB⟩, ⟨HtAS, HtAR, HtBS, HtBR⟩, HcA, HcB⟩, HmA, HmB⟩ Hk
  iapply (wp_sendA m K (owed d n (g + 1) + tallyAt (brC (prv d) (rslot g)) g N) hg _ rfl) $$ [HmA HdA HO HtAS HtAR]
  · isplitr; · iexact HR
    isplitl [HmA]; · iexact HmA
    isplitl [HdA]; · iexact HdA
    isplitl [HO]; · iexact HO
    isplitr; · iexact HrB
    isplitl [HtAS]; · iexact HtAS
    isplitr; · iexact HrAS
    iexact HtAR
  iintro ⟨HcS, HO⟩
  iapply (wp_sendB m K (owed d n (g + 1)) hg _ rfl) $$ [HmB HdB HO HtBS HtBR]
  · isplitr; · iexact HR
    isplitl [HmB]; · iexact HmB
    isplitl [HdB]; · iexact HdB
    isplitl [HO]; · iexact HO
    isplitr; · iexact HrB
    isplitl [HtBS]; · iexact HtBS
    isplitr; · iexact HrBS
    iexact HtBR
  iintro ⟨HcS', HO⟩
  iapply Hk
  isplitl [HB]
  · isplitl [HB]; · iexact HB
    iexact HrB
  isplitl [HAS HAS' HAR HBS HBS' HBR]
  · isplitl [HAS HAS']
    · isplitl [HAS]
      · isplitl [HAS]; · iexact HAS
        iexact HrAS
      iexact HAS'
    isplitl [HAR]; · iexact HAR
    isplitl [HBS HBS']
    · isplitl [HBS]
      · isplitl [HBS]; · iexact HBS
        iexact HrBS
      iexact HBS'
    iexact HBR
  isplitl [Hres]; · iexact Hres
  isplitl [HO]; · iexists Ws; iexact HO
  isplitl [HcS]; · iexact HcS
  isplitl [HcS']; · iexact HcS'
  isplitl [HcA] <;> iassumption

/-! ## The waits -/

/-- A wait for the whole of the open round of one of the device's own cells. -/
theorem wp_cell {q : DmaSem sig} {c : Cl} (hc : clOf (.dma q) = c) (hdt : dut c = {false}) {R : ℕ} (hR : R < rounds c) (κ i : ℕ) (O : CellTallies nD τ sig ℕ)
    {sp sp' : Space} {s s' : Shape} {e : EltTy} {src : Memref sig .tc sp s e} {dst : Memref sig .tc sp' s' e} {hs : src.view.WordExact} {hd : dst.view.WordExact}
    (hN : dst.view.dmaCredit = amt c) {Q : PUnit → sProp 𝕄} :
    iprop(cellInv ER (Rd m) κ ((d : Thread nD τ), .dma q) ∗ cred (tallyAt ((d : Thread nD τ), .dma q) i (amt c)) ∗ debt d O
        ∗ MayWait (d : Thread nD τ) (.dma q) i O ∗ at' ((d : Thread nD τ), .dma q) R)
      ⊢ iprop(((debt d O ∗ at' ((d : Thread nD τ), .dma q) (R + 1) ∗ pay m d c R false) -∗ Q ⟨⟩)
        -∗ W d (Prog.lift (.waitDma2 q src dst hs hd)) Q) := by
  unfold debt at'
  simp only [Prog.lift]
  rw [← hN]
  iintro ⟨#HI, Hc, ⟨%Ws, HO⟩, HM, Hat, -⟩ Hk
  iapply (Rounds.wp_wait_rest_token 𝒱₀ ER (Rd m) (d : Thread nD τ) none (κ := κ)
      (wpE_waitDma2_eq 𝒱₀ (d : Thread nD τ) none Set.univ) (Set.mem_univ _) i (O := O) (W := Ws) (R := R) (m := 0) (T := ∅)
      (by rw [Nat.zero_add, expect_of m d hc hR hdt, hN])) $$ [Hc HO HM Hat]
  · isplitr; · iexact HI
    isplitl [Hc]; · iexact Hc
    isplitl [HO]; · iexact HO
    isplitl [HM]; · iexact HM
    iexact Hat
  iintro ⟨HO, Hat, Hr, Hpay⟩
  ihave Hp := (Entails.of_eq (rest_of m d hc hR hdt)) $$ Hpay
  iapply W_done
  iapply Hk
  isplitl [HO]; · iexists _; iexact HO
  isplitl [Hat Hr]
  · isplitl [Hat] <;> iassumption
  iexact Hp

theorem pay_arA (d : Dev nD) (g : ℕ) : pay m d (.ar (rslot g)) (g / 2) false = iprop(own d (slotM aM (rslot g)) (msgA (part m) g (prv d)) ∗ reached ER (barC (prv d)) (g + 1)) := by
  show recvA m d _ _ = _
  unfold recvA
  rw [stepOf_rslot]
theorem pay_arB (d : Dev nD) (g : ℕ) : pay m d (.br (rslot g)) (g / 2) false = iprop(own d (slotM bM (rslot g)) (msgB (part m) g (nxt d)) ∗ reached ER (barC (nxt d)) (g + 1)) := by
  show recvB m d _ _ = _
  unfold recvB
  rw [stepOf_rslot]

/-- The waits of a step: the device is ready for the next, and has the messages of this one. -/
theorem wp_waits (h : n + 1 + g = 6) {Q : PUnit → sProp 𝕄} :
    iprop(records m K ∗ levAts L lv ∗ sent d n g) ⊢ iprop(((ready d n (g + 1) ∗ arrived m d g) -∗ Q ⟨⟩) -∗ W d (waits (sslot g) (rslot g)) Q) := by
  have hg : g < 6 := by omega
  have hab : Above (g + 1) (2 * (g + 1)) (owed d n (g + 1)) := above_owed d n (g + 1) (by omega)
  unfold waits waitA waitB waitP
  rw [W_bind, W_bind, W_bind]
  unfold sent ringAt
  iintro ⟨#HR, #Hlev, HB, ⟨⟨HAS, HAS'⟩, ⟨HAR, HAR'⟩, ⟨HBS, HBS'⟩, ⟨HBR, HBR'⟩⟩, Hres, HO, HcS, HcS', HcA, HcB⟩ Hk
  iapply (wp_cell m (cl_as (sslot g)) rfl (step_lt hg) (kAs K d (sslot g)) 0 (owed d n (g + 1)) (credit_A _)) $$ [HcS HO HAS]
  · isplitr; · iapply (inv_as m K d (sslot g)); iexact HR
    isplitl [HcS]; · iexact HcS
    isplitl [HO]; · iexact HO
    isplitr
    · iapply (mayWait_of (F := F) d (.dma (asS (sslot g))) (by decide) hab (by unfold lv; rw [cl_as]; exact Nat.zero_le _)) $$ [Hlev]
      iexact Hlev
    iexact HAS
  iintro ⟨HO, HAS, HsA⟩
  iapply (wp_cell m (cl_ar (rslot g)) rfl (step_lt hg) (kAr K d (rslot g)) g (owed d n (g + 1)) (credit_A _)) $$ [HcA HO HAR]
  · isplitr; · iapply (inv_ar m K d (rslot g)); iexact HR
    isplitl [HcA]; · iexact HcA
    isplitl [HO]; · iexact HO
    isplitr
    · iapply (mayWait_of (F := F) d (.dma (arS (rslot g))) hg hab (by rw [lv_ar]; omega)) $$ [Hlev]
      iexact Hlev
    iexact HAR
  iintro ⟨HO, HAR, HrA⟩
  iapply (wp_cell m (cl_bs (sslot g)) rfl (step_lt hg) (kBs K d (sslot g)) 0 (owed d n (g + 1)) (credit_B _)) $$ [HcS' HO HBS]
  · isplitr; · iapply (inv_bs m K d (sslot g)); iexact HR
    isplitl [HcS']; · iexact HcS'
    isplitl [HO]; · iexact HO
    isplitr
    · iapply (mayWait_of (F := F) d (.dma (bsS (sslot g))) (by decide) hab (by unfold lv; rw [cl_bs]; exact Nat.zero_le _)) $$ [Hlev]
      iexact Hlev
    iexact HBS
  iintro ⟨HO, HBS, HsB⟩
  iapply (wp_cell m (cl_br (rslot g)) rfl (step_lt hg) (kBr K d (rslot g)) g (owed d n (g + 1)) (credit_B _)) $$ [HcB HO HBR]
  · isplitr; · iapply (inv_br m K d (rslot g)); iexact HR
    isplitl [HcB]; · iexact HcB
    isplitl [HO]; · iexact HO
    isplitr
    · iapply (mayWait_of (F := F) d (.dma (brS (rslot g))) hg hab (by rw [lv_br]; omega)) $$ [Hlev]
      iexact Hlev
    iexact HBR
  iintro ⟨HO, HBR, HrB⟩
  ihave HsA := (Entails.of_eq (show pay m d (.as (sslot g)) (g / 2) false = some' d (slotM aM (sslot g)) from rfl)) $$ HsA
  ihave HsB := (Entails.of_eq (show pay m d (.bs (sslot g)) (g / 2) false = some' d (slotM bM (sslot g)) from rfl)) $$ HsB
  ihave HrA := (Entails.of_eq (pay_arA m d g)) $$ HrA
  ihave HrB := (Entails.of_eq (pay_arB m d g)) $$ HrB
  icases HrA with ⟨HrA, HmP⟩
  icases HrB with ⟨HrB, HmN⟩
  iapply Hk
  unfold ready arrived ringAt
  rw [rslot_succ, sslot_succ, show (g + 1 + 1) / 2 = g / 2 + 1 by omega]
  isplitr [HrA HrB]
  · isplitl [HB]; · iexact HB
    isplitl [HAS HAS' HAR HAR' HBS HBS' HBR HBR']
    · isplitl [HAS HAS']
      · isplitl [HAS'] <;> iassumption
      isplitl [HAR HAR']
      · isplitl [HAR'] <;> iassumption
      isplitl [HBS HBS']
      · isplitl [HBS'] <;> iassumption
      isplitl [HBR'] <;> iassumption
    isplitl [Hres]; · iexact Hres
    isplitl [HO]; · iexact HO
    isplitl [HmP HmN]
    · isplitl [HmP] <;> iassumption
    isplitl [HsA]; · iexact HsA
    iexact HsB
  isplitl [HrA] <;> iassumption

/-! ## The weights -/

theorem wp_fetch_wq (v : FVec F S1024x1024 .f32) {Q : PUnit → sProp 𝕄} :
    iprop(records m K ∗ own d wqM v ∗ ((wqC d).view.loc (d : Thread nD τ) ↦[(wqC d).view.set]{fullShare} (m ((d : Thread nD τ).loc main_arg1)))
        ∗ dutyTok ER (cpC d 0) 0 false)
      ⊢ iprop((cred (tallyAt (cpC d 0) 0 Nw) -∗ Q ⟨⟩) -∗ W d (fetchP (wqC d) (View.wordExact_bits rfl) wqM wqM_exact (cpS 0)) Q) := by
  unfold fetchP
  simp only [Prog.lift, Prog.bind_op, Prog.bind_ret]
  unfold own owns
  iintro ⟨#HR, ⟨%fd, %hfd, Hd⟩, Hs, Ht⟩ Hk
  iapply (Rounds.wp_copy_pointsTo 𝒱₀ ER (Rd m) (d : Thread nD τ) none (κ := kCp K d 0) (r := 0) (d := false) (fd := fd) (q := fullShare) (fs := m ((d : Thread nD τ).loc main_arg1))
    (by rw [duties_of m d (cl_cp 0) Nat.one_pos]; exact Finset.mem_singleton_self _) 0 Nw (by rw [View.amount_dma]; exact credit_wq) (amount_of m d (cl_cp 0) _ _)
    (by rw [payload_of m d (cl_cp 0)]
        show _ ⊢ wqPay m d
        unfold wqPay own owns
        iintro ⟨H, Hs⟩
        isplitl [H]
        · iexists _
          isplitr
          swap; · iexact H
          ipureintro
          rw [View.read_write_univ]
          rfl
        iexact Hs)) $$ [Hs Hd Ht]
  · isplitr; · iapply (inv_cp m K d 0); iexact HR
    isplitl [Hs]; · iexact Hs
    isplitl [Hd]; · iexact Hd
    isplitl [Ht]; · iexact Ht
    iapply (reached_cp m K d 0); iexact HR
  iintro H
  iapply W_done
  iapply Hk
  iexact H

theorem wp_fetch_wo (v : FVec F S1024x1024 .f32) {Q : PUnit → sProp 𝕄} :
    iprop(records m K ∗ own d woM v ∗ ((woC d).view.loc (d : Thread nD τ) ↦[(woC d).view.set]{fullShare} (m ((d : Thread nD τ).loc main_arg4)))
        ∗ dutyTok ER (cpC d 1) 0 false)
      ⊢ iprop((cred (tallyAt (cpC d 1) 0 Nw) -∗ Q ⟨⟩) -∗ W d (fetchP (woC d) (View.wordExact_bits rfl) woM woM_exact (cpS 1)) Q) := by
  unfold fetchP
  simp only [Prog.lift, Prog.bind_op, Prog.bind_ret]
  unfold own owns
  iintro ⟨#HR, ⟨%fd, %hfd, Hd⟩, Hs, Ht⟩ Hk
  iapply (Rounds.wp_copy_pointsTo 𝒱₀ ER (Rd m) (d : Thread nD τ) none (κ := kCp K d 1) (r := 0) (d := false) (fd := fd) (q := fullShare) (fs := m ((d : Thread nD τ).loc main_arg4))
    (by rw [duties_of m d (cl_cp 1) Nat.one_pos]; exact Finset.mem_singleton_self _) 0 Nw (by rw [View.amount_dma]; exact credit_wo) (amount_of m d (cl_cp 1) _ _)
    (by rw [payload_of m d (cl_cp 1)]
        show _ ⊢ woPay m d
        unfold woPay own owns
        iintro ⟨H, Hs⟩
        isplitl [H]
        · iexists _
          isplitr
          swap; · iexact H
          ipureintro
          rw [View.read_write_univ]
          rfl
        iexact Hs)) $$ [Hs Hd Ht]
  · isplitr; · iapply (inv_cp m K d 1); iexact HR
    isplitl [Hs]; · iexact Hs
    isplitl [Hd]; · iexact Hd
    isplitl [Ht]; · iexact Ht
    iapply (reached_cp m K d 1); iexact HR
  iintro H
  iapply W_done
  iapply Hk
  iexact H

/-- A weight's wait. -/
theorem wp_fetched (i : Fin 2) {src : Memref sig .tc .hbm S1024x1024 .f32} {hs : src.view.WordExact} {dst : Memref sig .tc .vmem S1024x1024 .f32} {hd : dst.view.WordExact}
    (hN : dst.view.dmaCredit = Nw) {O : CellTallies nD τ sig ℕ} {a b : ℕ} (hO : Above a b O) {Q : PUnit → sProp 𝕄} :
    iprop(records m K ∗ levAts L lv ∗ cred (tallyAt (cpC d i) 0 Nw) ∗ debt d O ∗ at' (cpC d i) 0)
      ⊢ iprop(((debt d O ∗ at' (cpC d i) 1 ∗ pay m d (.cp i) 0 false) -∗ Q ⟨⟩) -∗ W d (fetchedP src hs dst hd (cpS i)) Q) := by
  unfold fetchedP
  iintro ⟨#HR, #Hlev, Hc, HO, Hat⟩ Hk
  iapply (wp_cell m (cl_cp i) rfl Nat.one_pos (kCp K d i) 0 O hN) $$ [Hc HO Hat]
  · isplitr; · iapply (inv_cp m K d i); iexact HR
    isplitl [Hc]; · iexact Hc
    isplitl [HO]; · iexact HO
    isplitr
    · iapply (mayWait_of (F := F) d (.dma (cpS i)) (by decide) hO (by unfold lv; rw [cl_cp]; exact Nat.zero_le _)) $$ [Hlev]
      iexact Hlev
    iexact Hat
  iexact Hk

end Cert.Ring

end
-- ==== Proof.Body.lean ====
/- The run of one device: the straight line of its body, move by move. -/
module

public import proofs.«01_k».proof.Proof.Step

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 11 → ℕ)

/-- The buffers of the attention, with the classes `S` done. -/
abbrev cl (d : Dev nD) (S : Finset (Fin 4)) : sProp 𝕄 :=
  classes d (permF (xS m d)) (permF (kS m d)) (permF (vS m d)) (wqS' m d) (woS' m d) S

abbrev atA (d : Dev nD) (i : Fin 2) (v : Msg F) : sProp 𝕄 := own d (slotM aM i) v
abbrev atB (d : Dev nD) (i : Fin 2) (v : Msg F) : sProp 𝕄 := own d (slotM bM i) v

variable {d : Dev nD} {S : Finset (Fin 4)}

/-- A move that needs the finished classes, made among the buffers of the attention. -/
theorem among {p : P F} {X Y : sProp 𝕄}
    (h : ∀ Q : PUnit → sProp 𝕄, iprop(parts d (part m d) S ∗ X) ⊢ iprop(((parts d (part m d) S ∗ Y) -∗ Q ⟨⟩) -∗ W d p Q)) (Q : PUnit → sProp 𝕄) :
    iprop(cl m d S ∗ X) ⊢ iprop(((cl m d S ∗ Y) -∗ Q ⟨⟩) -∗ W d p Q) := by
  unfold cl classes
  iintro ⟨⟨H1, H2, H3, H4, H5, H6, HP⟩, HX⟩ Hk
  iapply (h Q) $$ [HP HX]
  · isplitl [HP]; · iexact HP
    iexact HX
  iintro ⟨HP, HY⟩
  iapply Hk
  isplitr [HY]
  · isplitl [H1]; · iexact H1
    isplitl [H2]; · iexact H2
    isplitl [H3]; · iexact H3
    isplitl [H4]; · iexact H4
    isplitl [H5]; · iexact H5
    isplitl [H6]; · iexact H6
    iexact HP
  iexact HY

theorem msgA_zero (d : Dev nD) : first (half 0 (part m d (cls d 0))) = msgA (part m) 0 d := by rw [msgA]
theorem msgB_zero (d : Dev nD) : first (half 1 (part m d (cls d 0))) = msgB (part m) 0 d := by rw [msgB]
theorem msgA_add (g : ℕ) (hg : g < 3) (d : Dev nD) : accum (msgA (part m) g (prv d)) (half 0 (part m d (cls d (3 - g)))) = msgA (part m) (g + 1) d := by
  rw [msgA, if_pos hg]
theorem msgB_add (g : ℕ) (hg : g < 3) (d : Dev nD) : accum (msgB (part m) g (nxt d)) (half 1 (part m d (cls d (g + 1)))) = msgB (part m) (g + 1) d := by
  rw [msgB, if_pos hg]
theorem msgA_pass (g : ℕ) (hg : 3 ≤ g) (d : Dev nD) : msgA (part m) g (prv d) = msgA (part m) (g + 1) d := by
  rw [msgA, if_neg (Nat.not_lt.mpr hg)]
theorem msgB_pass (g : ℕ) (hg : 3 ≤ g) (d : Dev nD) : msgB (part m) g (nxt d) = msgB (part m) (g + 1) d := by
  rw [msgB, if_neg (Nat.not_lt.mpr hg)]

theorem wp_initA (hc : cls d 0 ∈ S) (v : Msg F) (Q : PUnit → sProp 𝕄) :
    iprop(cl m d S ∗ atA d 0 v) ⊢ iprop(((cl m d S ∗ atA d (sslot 0) (msgA (part m) 0 d)) -∗ Q ⟨⟩)
      -∗ W d (initP aM haM (halfO 0 (cls d 0)) (half_in 0 (cls d 0))) Q) := by
  rw [← msgA_zero]
  exact among m (fun Q => wp_initP (part m d) hc 0 v) Q
theorem wp_initB (hc : cls d 0 ∈ S) (v : Msg F) (Q : PUnit → sProp 𝕄) :
    iprop(cl m d S ∗ atB d 0 v) ⊢ iprop(((cl m d S ∗ atB d (sslot 0) (msgB (part m) 0 d)) -∗ Q ⟨⟩)
      -∗ W d (initP bM hbM (halfO 1 (cls d 0)) (half_in 1 (cls d 0))) Q) := by
  rw [← msgB_zero]
  exact among m (fun Q => wp_initP (part m d) hc 1 v) Q

theorem wp_addA (g : ℕ) (hg : g < 3) (hc : cls d (3 - g) ∈ S) (Q : PUnit → sProp 𝕄) :
    iprop(cl m d S ∗ atA d (rslot g) (msgA (part m) g (prv d))) ⊢ iprop(((cl m d S ∗ atA d (sslot (g + 1)) (msgA (part m) (g + 1) d)) -∗ Q ⟨⟩)
      -∗ W d (addA (rslot g) (cls d (3 - g))) Q) := by
  rw [← msgA_add m g hg d, sslot_succ]
  exact among m (fun Q => wp_addP (part m d) hc 0 (rslot g) _) Q
theorem wp_addB (g : ℕ) (hg : g < 3) (hc : cls d (g + 1) ∈ S) (Q : PUnit → sProp 𝕄) :
    iprop(cl m d S ∗ atB d (rslot g) (msgB (part m) g (nxt d))) ⊢ iprop(((cl m d S ∗ atB d (sslot (g + 1)) (msgB (part m) (g + 1) d)) -∗ Q ⟨⟩)
      -∗ W d (addB (rslot g) (cls d (g + 1))) Q) := by
  rw [← msgB_add m g hg d, sslot_succ]
  exact among m (fun Q => wp_addP (part m d) hc 1 (rslot g) _) Q

/-! ## Which chunk each message from step 3 on is -/

theorem chunkA_eq (c : Fin 4) : chunk (part m) 0 c = msgA (part m) 3 (prv c) := if_pos rfl
theorem chunkB_eq (c : Fin 4) : chunk (part m) 1 c = msgB (part m) 3 (nxt c) := if_neg (by decide)
theorem chunkA3 (d : Dev nD) : msgA (part m) 3 d = chunk (part m) 0 (cls d 1) := by
  rw [chunkA_eq, show prv (cls d 1) = d by revert d; decide]
theorem chunkA4 (d : Dev nD) : msgA (part m) 4 d = chunk (part m) 0 (cls d 0) := by
  rw [chunkA_eq, show prv (cls d 0) = prv d by revert d; decide, msgA_pass m 3 le_rfl]
theorem chunkA5 (d : Dev nD) : msgA (part m) 5 d = chunk (part m) 0 (cls d 3) := by
  rw [chunkA_eq, show prv (cls d 3) = prv (prv d) by revert d; decide, msgA_pass m 3 le_rfl, msgA_pass m 4 (by decide)]
theorem chunkA6 (d : Dev nD) : msgA (part m) 6 d = chunk (part m) 0 (cls d 2) := by
  rw [chunkA_eq, show prv (cls d 2) = prv (prv (prv d)) by revert d; decide, msgA_pass m 3 le_rfl, msgA_pass m 4 (by decide), msgA_pass m 5 (by decide)]
theorem chunkB3 (d : Dev nD) : msgB (part m) 3 d = chunk (part m) 1 (cls d 3) := by
  rw [chunkB_eq, show nxt (cls d 3) = d by revert d; decide]
theorem chunkB4 (d : Dev nD) : msgB (part m) 4 d = chunk (part m) 1 (cls d 0) := by
  rw [chunkB_eq, show nxt (cls d 0) = nxt d by revert d; decide, msgB_pass m 3 le_rfl]
theorem chunkB5 (d : Dev nD) : msgB (part m) 5 d = chunk (part m) 1 (cls d 1) := by
  rw [chunkB_eq, show nxt (cls d 1) = nxt (nxt d) by revert d; decide, msgB_pass m 3 le_rfl, msgB_pass m 4 (by decide)]
theorem chunkB6 (d : Dev nD) : msgB (part m) 6 d = chunk (part m) 1 (cls d 2) := by
  rw [chunkB_eq, show nxt (cls d 2) = nxt (nxt (nxt d)) by revert d; decide, msgB_pass m 3 le_rfl, msgB_pass m 4 (by decide), msgB_pass m 5 (by decide)]

theorem wp_storeA (T : Finset (Fin 2 × Fin 4)) (c : Fin 4) (r : Fin 2) (v : Msg F) (hv : v = chunk (part m) 0 c) (Q : PUnit → sProp 𝕄) :
    iprop(outs d (chunk (part m)) T ∗ atA d r v) ⊢ iprop(((outs d (chunk (part m)) (insert (0, c) T) ∗ atA d r v) -∗ Q ⟨⟩) -∗ W d (storeA r c) Q) :=
  wp_storeP _ T 0 c r v hv
theorem wp_storeB (T : Finset (Fin 2 × Fin 4)) (c : Fin 4) (r : Fin 2) (v : Msg F) (hv : v = chunk (part m) 1 c) (Q : PUnit → sProp 𝕄) :
    iprop(outs d (chunk (part m)) T ∗ atB d r v) ⊢ iprop(((outs d (chunk (part m)) (insert (1, c) T) ∗ atB d r v) -∗ Q ⟨⟩) -∗ W d (storeB r c) Q) :=
  wp_storeP _ T 1 c r v hv

end Cert.Ring

end
-- ==== Proof.Run.lean ====
/- The run of one device, from what it starts with to what it ends with. -/
module

public import proofs.«01_k».proof.Proof.Body

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (K : Dev nD × Fin 11 → ℕ)

/-- A square buffer holding whatever it holds. -/
abbrev any (d : Dev nD) (mm : Memref sig .tc .vmem S1024x1024 .f32) : sProp 𝕄 := ownsSat (d : Thread nD τ) mm fullShare fun _ => True

abbrev wqPts (d : Dev nD) : sProp 𝕄 := iprop((wqC d).view.loc (d : Thread nD τ) ↦[(wqC d).view.set]{fullShare} (m ((d : Thread nD τ).loc main_arg1)))
abbrev woPts (d : Dev nD) : sProp 𝕄 := iprop((woC d).view.loc (d : Thread nD τ) ↦[(woC d).view.set]{fullShare} (m ((d : Thread nD τ).loc main_arg4)))

def square (d : Dev nD) : sProp 𝕄 :=
  iprop(any d wqM ∗ any d woM ∗ any d xpM ∗ any d kpM ∗ any d vpM ∗ any d ctxM ∗ any d partM)

/-- What the body of device `d` starts from. -/
def before (d : Dev nD) : sProp 𝕄 :=
  iprop((own d xM (xS m d) ∗ own d kM (kS m d) ∗ own d vM (vS m d) ∗ any d oM) ∗ square d
    ∗ (some' d (slotM aM 0) ∗ some' d (slotM bM 0)) ∗ (wqPts m d ∗ woPts m d)
    ∗ (dutyTok ER (cpC d 0) 0 false ∗ dutyTok ER (cpC d 1) 0 false) ∗ (at' (cpC d 0) 0 ∗ at' (cpC d 1) 0) ∗ ready d 6 0)

/-- What it ends with. -/
def after (d : Dev nD) : sProp 𝕄 :=
  iprop((own d xM (xS m d) ∗ own d kM (kS m d) ∗ own d vM (vS m d) ∗ own d oM (outAll (part m))) ∗ square d
    ∗ (some' d (slotM aM 0) ∗ some' d (slotM bM 0)) ∗ (wqPts m d ∗ woPts m d)
    ∗ (at' (cpC d 0) 1 ∗ at' (cpC d 1) 1) ∗ ready d 0 6)

variable {d : Dev nD}

theorem own_any {mm : Memref sig .tc .vmem S1024x1024 .f32} (X : FVec F S1024x1024 .f32) : own d mm X ⊢ any d mm :=
  ownsSat_intro (d : Thread nD τ) mm fullShare (Φ := fun _ => True) trivial
theorem sat_any {mm : Memref sig .tc .vmem S1024x1024 .f32} (P : FVec F S1024x1024 .f32 → Prop) : ownsSat (d : Thread nD τ) mm fullShare P ⊢ any d mm :=
  ownsSat_mono (d : Thread nD τ) mm fullShare fun _ _ => trivial

theorem perms_start (x k v : FVec F S1024x1024 .f32) :
    iprop((own d xM x ∗ own d kM k ∗ own d vM v) ∗ any d xpM ∗ any d kpM ∗ any d vpM) ⊢ perms d x k v 0 := by
  unfold perms
  iintro ⟨⟨H1, H2, H3⟩, H4, H5, H6⟩
  isplitl [H1]; · iexact H1
  isplitl [H2]; · iexact H2
  isplitl [H3]; · iexact H3
  isplitl [H4]; · iapply (ownsSat_mono (d : Thread nD τ) xpM fullShare (fun f _ => Perm.zero x f)); iexact H4
  isplitl [H5]; · iapply (ownsSat_mono (d : Thread nD τ) kpM fullShare (fun f _ => Perm.zero k f)); iexact H5
  iapply (ownsSat_mono (d : Thread nD τ) vpM fullShare (fun f _ => Perm.zero v f)); iexact H6

theorem perm_done {mm : Memref sig .tc .vmem S1024x1024 .f32} (x : FVec F S1024x1024 .f32) :
    ownsSat (d : Thread nD τ) mm fullShare (Perm 16 x) ⊢ own d mm (permF x) := by
  iintro H
  ihave H' := (ownsSat_elim (d : Thread nD τ) mm fullShare (Perm 16 x)) $$ H
  icases H' with ⟨%f, %hf, H⟩
  have e := Perm.done hf
  subst e
  iexact H

theorem outs_done (T : Finset (Fin 2 × Fin 4)) (hT : ∀ uc, uc ∈ T) : outs d (chunk (part m)) T ⊢ own d oM (outAll (part m)) := by
  iintro H
  ihave H' := (ownsSat_elim (d : Thread nD τ) oM fullShare (Outs (chunk (part m)) T)) $$ H
  icases H' with ⟨%f, %hf, H⟩
  have e := Outs.done hf hT
  subst e
  iexact H

theorem classes_end (xp kp vp wq wo : FVec F S1024x1024 .f32) (S : Finset (Fin 4)) : classes d xp kp vp wq wo S ⊢ square d := by
  unfold classes square
  iintro ⟨H1, H2, H3, H4, H5, H6, H7⟩
  isplitl [H2]; · iapply (own_any wq); iexact H2
  isplitl [H3]; · iapply (own_any wo); iexact H3
  isplitl [H1]; · iapply (own_any xp); iexact H1
  isplitl [H4]; · iapply (own_any kp); iexact H4
  isplitl [H5]; · iapply (own_any vp); iexact H5
  isplitl [H6]; · iexact H6
  iapply (sat_any _); iexact H7

theorem pay_wq (d : Dev nD) : pay m d (.cp 0) 0 false = wqPay m d := by unfold pay; exact if_pos rfl
theorem pay_wo (d : Dev nD) : pay m d (.cp 1) 0 false = woPay m d := by unfold pay; exact if_neg (by decide)

theorem above_opened (d : Dev nD) : Above 0 0 (owed d 5 1 + tallyAt (brC (prv d) (rslot 0)) 0 N + tallyAt (arC (nxt d) (rslot 0)) 0 N) :=
  (((above_owed d 5 1 (by decide)).mono (a' := 0) (b' := 0) (by decide) (by decide)).add rfl le_rfl (by decide) (by rw [lv_br]; decide)).add rfl le_rfl
    (by decide) (by rw [lv_ar]; decide)

/-- The classes finished after the first computation, after three, after all four. -/
abbrev S1 (d : Dev nD) : Finset (Fin 4) := insert (cls d 0) ∅
abbrev S3 (d : Dev nD) : Finset (Fin 4) := insert (cls d 3) (insert (cls d 1) (S1 d))
abbrev S4 (d : Dev nD) : Finset (Fin 4) := insert (cls d 2) (S3 d)

/-- The chunks stored, in the order of the stores, are all of them. -/
theorem outs_end (d : Dev nD) :
    outs d (chunk (part m)) (insert (1, cls d 2) (insert (0, cls d 2) (insert (1, cls d 1) (insert (0, cls d 3) (insert (1, cls d 0) (insert (0, cls d 0)
      (insert (1, cls d 3) (insert (0, cls d 1) ∅)))))))) ⊢ own d oM (outAll (part m)) :=
  outs_done m _ (by revert d; decide)

/-- The body of a device, run from `before` to `after`. -/
theorem wp_clean (Q : PUnit → sProp 𝕄) :
    iprop(records m K ∗ levAts L lv ∗ before m d) ⊢ iprop((after m d -∗ Q ⟨⟩) -∗ W d (cleanP d) Q) := by
  unfold cleanP
  simp only [W_bind]
  unfold before after square some'
  iintro ⟨#HR, #Hlev, ⟨Hx, Hk, Hv, HO⟩, ⟨Hwq, Hwo, Hxp, Hkp, Hvp, Hctx, Hpart⟩, ⟨⟨%a0, HA⟩, ⟨%b0, HB⟩⟩, ⟨HwqH, HwoH⟩, ⟨Ht0, Ht1⟩, ⟨Hat0, Hat1⟩, Hring⟩ Hend
  ihave Hwq' := (ownsSat_elim (d : Thread nD τ) wqM fullShare (fun _ => True)) $$ Hwq
  icases Hwq' with ⟨%wq0, -, Hwq⟩
  ihave Hwo' := (ownsSat_elim (d : Thread nD τ) woM fullShare (fun _ => True)) $$ Hwo
  icases Hwo' with ⟨%wo0, -, Hwo⟩
  iapply (wp_fetch_wq m K wq0) $$ [Hwq HwqH Ht0]
  · isplitr; · iexact HR
    isplitl [Hwq]; · iexact Hwq
    isplitl [HwqH]; · iexact HwqH
    iexact Ht0
  iintro Hc0
  iapply (wp_fetch_wo m K wo0) $$ [Hwo HwoH Ht1]
  · isplitr; · iexact HR
    isplitl [Hwo]; · iexact Hwo
    isplitl [HwoH]; · iexact HwoH
    iexact Ht1
  iintro Hc1
  iapply (wp_shake m K (d := d) (n := 5) (g := 0) (by decide)) $$ [Hring]
  · isplitr; · iexact HR
    isplitr; · iexact Hlev
    iexact Hring
  iintro Hring
  iapply (wp_perm_seq (xS m d) (kS m d) (vS m d) 15 0 rfl) $$ [Hx Hk Hv Hxp Hkp Hvp]
  · iapply (perms_start (xS m d) (kS m d) (vS m d))
    isplitl [Hx Hk Hv]
    · isplitl [Hx]; · iexact Hx
      isplitl [Hk]; · iexact Hk
      iexact Hv
    isplitl [Hxp]; · iexact Hxp
    isplitl [Hkp]; · iexact Hkp
    iexact Hvp
  iintro Hperm
  unfold perms
  icases Hperm with ⟨Hx, Hk, Hv, Hxp, Hkp, Hvp⟩
  unfold opened
  icases Hring with ⟨Hr1, Hr2, Hr3, Hdebt, Hr5⟩
  iapply (wp_fetched m K 0 credit_wq (above_opened d)) $$ [Hc0 Hdebt Hat0]
  · isplitr; · iexact HR
    isplitr; · iexact Hlev
    isplitl [Hc0]; · iexact Hc0
    isplitl [Hdebt]; · iexact Hdebt
    iexact Hat0
  iintro ⟨Hdebt, Hat0, Hwq⟩
  iapply (wp_fetched m K 1 credit_wo (above_opened d)) $$ [Hc1 Hdebt Hat1]
  · isplitr; · iexact HR
    isplitr; · iexact Hlev
    isplitl [Hc1]; · iexact Hc1
    isplitl [Hdebt]; · iexact Hdebt
    iexact Hat1
  iintro ⟨Hdebt, Hat1, Hwo⟩
  ihave Hwq := (Entails.of_eq (pay_wq m d)) $$ Hwq
  ihave Hwo := (Entails.of_eq (pay_wo m d)) $$ Hwo
  unfold wqPay woPay
  icases Hwq with ⟨Hwq, HwqH⟩
  icases Hwo with ⟨Hwo, HwoH⟩
  ihave Hring : (opened d 5 0 : sProp 𝕄) $$ [Hr1 Hr2 Hr3 Hdebt Hr5]
  · unfold opened
    isplitl [Hr1]; · iexact Hr1
    isplitl [Hr2]; · iexact Hr2
    isplitl [Hr3]; · iexact Hr3
    isplitl [Hdebt]; · iexact Hdebt
    iexact Hr5
  ihave HC : cl m d ∅ $$ [Hwq Hwo Hxp Hkp Hvp Hctx Hpart]
  · unfold cl classes
    isplitl [Hxp]; · iapply (perm_done (xS m d)); iexact Hxp
    isplitl [Hwq]; · iexact Hwq
    isplitl [Hwo]; · iexact Hwo
    isplitl [Hkp]; · iapply (perm_done (kS m d)); iexact Hkp
    isplitl [Hvp]; · iapply (perm_done (vS m d)); iexact Hvp
    isplitl [Hctx]; · iexact Hctx
    iapply (ownsSat_mono (d : Thread nD τ) partM fullShare (fun f _ => Parts.empty _ f)); iexact Hpart
  ihave HO : outs d (chunk (part m)) ∅ $$ [HO]
  · iapply (ownsSat_mono (d : Thread nD τ) oM fullShare (fun f _ => Outs.empty _ f)); iexact HO
  iapply (wp_classP _ _ _ _ _ _ (cls d 0)) $$ HC
  iintro HC
  iapply (wp_initA m (S := S1 d) (by simp) a0) $$ [HC HA]
  · isplitl [HC]; · iexact HC
    iexact HA
  iintro ⟨HC, HA⟩
  iapply (wp_initB m (S := S1 d) (by simp) b0) $$ [HC HB]
  · isplitl [HC]; · iexact HC
    iexact HB
  iintro ⟨HC, HB⟩
  iapply (wp_sends m K (d := d) (n := 5) (g := 0) (by decide)) $$ [Hring HA HB]
  · isplitr; · iexact HR
    isplitl [Hring]; · iexact Hring
    unfold outgoing
    isplitl [HA]; · iexact HA
    iexact HB
  iintro Hring
  iapply (wp_classP _ _ _ _ _ _ (cls d 1)) $$ HC
  iintro HC
  iapply (wp_classP _ _ _ _ _ _ (cls d 3)) $$ HC
  iintro HC
  iapply (wp_waits m K (d := d) (n := 5) (g := 0) (by decide)) $$ [Hring]
  · isplitr; · iexact HR
    isplitr; · iexact Hlev
    iexact Hring
  iintro ⟨Hring, Har⟩
  unfold arrived
  icases Har with ⟨HA, HB⟩
  iapply (wp_addA m 0 (S := S3 d) (by decide) (by revert d; decide) _) $$ [HC HA]
  · isplitl [HC]; · iexact HC
    iexact HA
  iintro ⟨HC, HA⟩
  iapply (wp_addB m 0 (S := S3 d) (by decide) (by revert d; decide) _) $$ [HC HB]
  · isplitl [HC]; · iexact HC
    iexact HB
  iintro ⟨HC, HB⟩
  iapply (wp_shake m K (d := d) (n := 4) (g := 1) (by decide)) $$ [Hring]
  · isplitr; · iexact HR
    isplitr; · iexact Hlev
    iexact Hring
  iintro Hring
  iapply (wp_sends m K (d := d) (n := 4) (g := 1) (by decide)) $$ [Hring HA HB]
  · isplitr; · iexact HR
    isplitl [Hring]; · iexact Hring
    unfold outgoing
    isplitl [HA]; · iexact HA
    iexact HB
  iintro Hring
  iapply (wp_classP _ _ _ _ _ _ (cls d 2)) $$ HC
  iintro HC
  iapply (wp_waits m K (d := d) (n := 4) (g := 1) (by decide)) $$ [Hring]
  · isplitr; · iexact HR
    isplitr; · iexact Hlev
    iexact Hring
  iintro ⟨Hring, Har⟩
  unfold arrived
  icases Har with ⟨HA, HB⟩
  iapply (wp_addA m 1 (S := S4 d) (by decide) (by revert d; decide) _) $$ [HC HA]
  · isplitl [HC]; · iexact HC
    iexact HA
  iintro ⟨HC, HA⟩
  iapply (wp_addB m 1 (S := S4 d) (by decide) (by revert d; decide) _) $$ [HC HB]
  · isplitl [HC]; · iexact HC
    iexact HB
  iintro ⟨HC, HB⟩
  iapply (wp_shake m K (d := d) (n := 3) (g := 2) (by decide)) $$ [Hring]
  · isplitr; · iexact HR
    isplitr; · iexact Hlev
    iexact Hring
  iintro Hring
  iapply (wp_sends m K (d := d) (n := 3) (g := 2) (by decide)) $$ [Hring HA HB]
  · isplitr; · iexact HR
    isplitl [Hring]; · iexact Hring
    unfold outgoing
    isplitl [HA]; · iexact HA
    iexact HB
  iintro Hring
  iapply (wp_waits m K (d := d) (n := 3) (g := 2) (by decide)) $$ [Hring]
  · isplitr; · iexact HR
    isplitr; · iexact Hlev
    iexact Hring
  iintro ⟨Hring, Har⟩
  unfold arrived
  icases Har with ⟨HA, HB⟩
  iapply (wp_addA m 2 (S := S4 d) (by decide) (by revert d; decide) _) $$ [HC HA]
  · isplitl [HC]; · iexact HC
    iexact HA
  iintro ⟨HC, HA⟩
  iapply (wp_addB m 2 (S := S4 d) (by decide) (by revert d; decide) _) $$ [HC HB]
  · isplitl [HC]; · iexact HC
    iexact HB
  iintro ⟨HC, HB⟩
  iapply (wp_storeA m _ (cls d 1) _ _ (chunkA3 m d)) $$ [HO HA]
  · isplitl [HO]; · iexact HO
    iexact HA
  iintro ⟨HO, HA⟩
  iapply (wp_storeB m _ (cls d 3) _ _ (chunkB3 m d)) $$ [HO HB]
  · isplitl [HO]; · iexact HO
    iexact HB
  iintro ⟨HO, HB⟩
  iapply (wp_shake m K (d := d) (n := 2) (g := 3) (by decide)) $$ [Hring]
  · isplitr; · iexact HR
    isplitr; · iexact Hlev
    iexact Hring
  iintro Hring
  iapply (wp_sends m K (d := d) (n := 2) (g := 3) (by decide)) $$ [Hring HA HB]
  · isplitr; · iexact HR
    isplitl [Hring]; · iexact Hring
    unfold outgoing
    isplitl [HA]; · iexact HA
    iexact HB
  iintro Hring
  iapply (wp_waits m K (d := d) (n := 2) (g := 3) (by decide)) $$ [Hring]
  · isplitr; · iexact HR
    isplitr; · iexact Hlev
    iexact Hring
  iintro ⟨Hring, Har⟩
  unfold arrived
  icases Har with ⟨HA, HB⟩
  ihave HA := (Entails.of_eq (congrArg (atA d (rslot 3)) (msgA_pass m 3 (by decide) d))) $$ HA
  ihave HB := (Entails.of_eq (congrArg (atB d (rslot 3)) (msgB_pass m 3 (by decide) d))) $$ HB
  iapply (wp_storeA m _ (cls d 0) _ _ (chunkA4 m d)) $$ [HO HA]
  · isplitl [HO]; · iexact HO
    iexact HA
  iintro ⟨HO, HA⟩
  iapply (wp_storeB m _ (cls d 0) _ _ (chunkB4 m d)) $$ [HO HB]
  · isplitl [HO]; · iexact HO
    iexact HB
  iintro ⟨HO, HB⟩
  iapply (wp_shake m K (d := d) (n := 1) (g := 4) (by decide)) $$ [Hring]
  · isplitr; · iexact HR
    isplitr; · iexact Hlev
    iexact Hring
  iintro Hring
  iapply (wp_sends m K (d := d) (n := 1) (g := 4) (by decide)) $$ [Hring HA HB]
  · isplitr; · iexact HR
    isplitl [Hring]; · iexact Hring
    unfold outgoing
    isplitl [HA]; · iexact HA
    iexact HB
  iintro Hring
  iapply (wp_waits m K (d := d) (n := 1) (g := 4) (by decide)) $$ [Hring]
  · isplitr; · iexact HR
    isplitr; · iexact Hlev
    iexact Hring
  iintro ⟨Hring, Har⟩
  unfold arrived
  icases Har with ⟨HA, HB⟩
  ihave HA := (Entails.of_eq (congrArg (atA d (rslot 4)) (msgA_pass m 4 (by decide) d))) $$ HA
  ihave HB := (Entails.of_eq (congrArg (atB d (rslot 4)) (msgB_pass m 4 (by decide) d))) $$ HB
  iapply (wp_storeA m _ (cls d 3) _ _ (chunkA5 m d)) $$ [HO HA]
  · isplitl [HO]; · iexact HO
    iexact HA
  iintro ⟨HO, HA⟩
  iapply (wp_storeB m _ (cls d 1) _ _ (chunkB5 m d)) $$ [HO HB]
  · isplitl [HO]; · iexact HO
    iexact HB
  iintro ⟨HO, HB⟩
  iapply (wp_shake m K (d := d) (n := 0) (g := 5) (by decide)) $$ [Hring]
  · isplitr; · iexact HR
    isplitr; · iexact Hlev
    iexact Hring
  iintro Hring
  iapply (wp_sends m K (d := d) (n := 0) (g := 5) (by decide)) $$ [Hring HA HB]
  · isplitr; · iexact HR
    isplitl [Hring]; · iexact Hring
    unfold outgoing
    isplitl [HA]; · iexact HA
    iexact HB
  iintro Hring
  iapply (wp_waits m K (d := d) (n := 0) (g := 5) (by decide)) $$ [Hring]
  · isplitr; · iexact HR
    isplitr; · iexact Hlev
    iexact Hring
  iintro ⟨Hring, Har⟩
  unfold arrived
  icases Har with ⟨HA, HB⟩
  ihave HA := (Entails.of_eq (congrArg (atA d (rslot 5)) (msgA_pass m 5 (by decide) d))) $$ HA
  ihave HB := (Entails.of_eq (congrArg (atB d (rslot 5)) (msgB_pass m 5 (by decide) d))) $$ HB
  iapply (wp_storeA m _ (cls d 2) _ _ (chunkA6 m d)) $$ [HO HA]
  · isplitl [HO]; · iexact HO
    iexact HA
  iintro ⟨HO, HA⟩
  iapply (wp_storeB m _ (cls d 2) _ _ (chunkB6 m d)) $$ [HO HB]
  · isplitl [HO]; · iexact HO
    iexact HB
  iintro ⟨HO, HB⟩
  iapply Hend
  isplitl [Hx Hk Hv HO]
  · isplitl [Hx]; · iexact Hx
    isplitl [Hk]; · iexact Hk
    isplitl [Hv]; · iexact Hv
    iapply (outs_end m d) $$ [HO]
    iexact HO
  isplitl [HC]
  · ihave HC := (classes_end (d := d) _ _ _ _ _ _) $$ HC
    unfold square
    iexact HC
  isplitl [HA HB]
  · isplitl [HA]
    · iexists _; iexact HA
    iexists _; iexact HB
  isplitl [HwqH HwoH]
  · isplitl [HwqH]; · iexact HwqH
    iexact HwoH
  isplitl [Hat0 Hat1]
  · isplitl [Hat0]; · iexact Hat0
    iexact Hat1
  iexact Hring

end Cert.Ring

end
-- ==== Proof.Ghost.lean ====
/- The semaphores' ghost state at the launch: every cell's invariant allocated, and every duty's token dealt to the device that pays it. -/
module

public import proofs.«01_k».proof.Proof.Run
public import Idealize.ShloMosaic.Lib.Pipeline.Launch
public import Idealize.ShloMosaic.Lib.Pipeline.Kit

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## The cells and the tokens -/

/-- The kernel's own semaphores: all but the barrier. -/
abbrev osem (k : Fin 10) : SemLoc sig := csem k.succ

theorem csem_injective : Function.Injective csem := by decide

theorem kcell_injective : Function.Injective (kcell : Dev nD × Fin 11 → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The tokens of a device's cells, by kind and step: the barrier's two, the two rings' sends and arrivals, the two copies'.
    First the cell's number. -/
def tkN (k g : ℕ) : ℕ :=
  if k < 2 then 0 else if k = 2 then 3 + g % 2 else if k = 3 then 5 + (g + 1) % 2 else if k = 4 then 7 + g % 2 else if k = 5 then 9 + (g + 1) % 2 else k - 5
theorem tkN_lt : ∀ (k : Fin 8) (g : Fin 6), tkN k.val g.val < 11 := by decide
def tk (k : Fin 8) (g : Fin 6) : Fin 11 := ⟨tkN k.val g.val, tkN_lt k g⟩
/-- The cell's round; -/
def tr (k : Fin 8) (g : Fin 6) : ℕ := if k.val < 2 ∨ 6 ≤ k.val then g.val else g.val / 2
/-- and which duty of the round. -/
def tb (k : Fin 8) : Bool := k = 0

abbrev tokOf (x : Dev nD × Fin 8 × Fin 6) : GSem nD τ sig × ℕ × Bool := (kcell (x.1, tk x.2.1 x.2.2), tr x.2.1 x.2.2, tb x.2.1)

set_option maxRecDepth 16000 in
theorem tk_injective : ∀ (k : Fin 8) (g : Fin 6) (k' : Fin 8) (g' : Fin 6), tk k g = tk k' g' → tr k g = tr k' g' → tb k = tb k' → k = k' ∧ g = g' := by decide

theorem tokOf_injective : Function.Injective (tokOf : Dev nD × Fin 8 × Fin 6 → GSem nD τ sig × ℕ × Bool) := by
  rintro ⟨c, k, g⟩ ⟨c', k', g'⟩ h
  have h0 := kcell_injective (congrArg Prod.fst h)
  have h1 : c = c' := congrArg Prod.fst h0
  have h2 := tk_injective k g k' g' (congrArg Prod.snd h0) (congrArg (fun x => x.2.1) h) (congrArg (fun x => x.2.2) h)
  rw [h1, h2.1, h2.2]
def ringToks : Finset (GSem nD τ sig × ℕ × Bool) := Finset.univ.map ⟨tokOf, tokOf_injective⟩

abbrev tok (c : Dev nD) (k : Fin 8) (g : Fin 6) : sProp 𝕄 := dutyTok ER (kcell (c, tk k g)) (tr k g) (tb k)

/-! ## The launch element -/

def u₀ : UU := (initOf (Pipeline.cells cfgs cellOf_inj) (Pipeline.launchToks cfgs cellOf_inj), initOf ringCells ringToks)

/-- The tokens of device `c`'s cells. -/
def toks (c : Dev nD) : sProp 𝕄 := bigSep Finset.univ fun k : Fin 8 => bigSep Finset.univ fun g : Fin 6 => tok c k g

def G (c : Dev nD) : sProp 𝕄 :=
  iprop((bigSep Finset.univ fun k : Fin 11 => roundState ER (Rd m) (kcell (c, k)) 0)
    ∗ (bigSep Finset.univ fun k : Fin 11 => iprop(atPos ER (kcell (c, k)) 0 ∅ 0 ∗ reached ER (kcell (c, k)) 0)) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 11 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

/-! ## The allocation -/

theorem bigSep_fin11 (Φ : Fin 11 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10) :=
  bigSep_univ_eq_bigSepL [0, 1, 2, 3, 4, 5, 6, 7, 8, 9, 10] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep_fin6 (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem ownSems0_eq (c : Dev nD) : (Pipeline.ownSems0 (Ix := ℕ) (Name := ℕ) (U := UU) (Lvl := ℕ) (Val := Elt F) (τ := τ) osem c : sProp 𝕄)
    = iprop(semVal (kcell (c, 1)) 0 ∗ semVal (kcell (c, 2)) 0 ∗ semVal (kcell (c, 3)) 0 ∗ semVal (kcell (c, 4)) 0 ∗ semVal (kcell (c, 5)) 0
      ∗ semVal (kcell (c, 6)) 0 ∗ semVal (kcell (c, 7)) 0 ∗ semVal (kcell (c, 8)) 0 ∗ semVal (kcell (c, 9)) 0 ∗ semVal (kcell (c, 10)) 0) := by
  rw [Pipeline.ownSems0_eq_of_list c osem [0, 1, 2, 3, 4, 5, 6, 7, 8, 9] (by decide) (by decide)]; rfl
theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Fin 11 => semVal (kcell (c, k)) 0 : sProp 𝕄) := by
  rw [ownSems0_eq, unscopedSems0_eq, bigSep_fin11]
  iintro ⟨H, HB⟩
  isplitl [HB]; · iexact HB
  iexact H

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos]; · iexact Hos
    iexact Hus
  imod (show iprop((bigSep Finset.univ fun k : Fin 11 => semVal (kcell (c, k)) 0) ∗ bigSep Finset.univ fun k : Fin 11 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-! ## The tokens dealt to those who pay -/

def ring : Dev nD ≃ Dev nD := ⟨nxt, prv, prv_nxt, nxt_prv⟩
theorem ring_sum (f : Dev nD → CellTallies nD τ sig ℕ) : ∑ d, f (nxt d) = ∑ d, f d := Equiv.sum_comp ring f
theorem ring_sum' (f : Dev nD → CellTallies nD τ sig ℕ) : ∑ d, f (prv d) = ∑ d, f d := Equiv.sum_comp ring.symm f

/-- Whose token of kind `k` a device pays with. -/
def whose (k : Fin 8) : Dev nD ≃ Dev nD := if k = 0 ∨ k = 5 then ring.symm else if k = 1 ∨ k = 3 then ring else Equiv.refl _

/-- The tokens of the `n` steps from `g` on, and the two copies'. -/
def stepToks (d : Dev nD) (g : ℕ) : sProp 𝕄 :=
  iprop(dutyTok ER (barC (prv d)) g true ∗ dutyTok ER (barC (nxt d)) g false
      ∗ dutyTok ER (asC d (sslot g)) (g / 2) false ∗ dutyTok ER (arC (nxt d) (rslot g)) (g / 2) false
      ∗ dutyTok ER (bsC d (sslot g)) (g / 2) false ∗ dutyTok ER (brC (prv d) (rslot g)) (g / 2) false)
def cpToks (d : Dev nD) (g : ℕ) : sProp 𝕄 := iprop(dutyTok ER (cpC d 0) g false ∗ dutyTok ER (cpC d 1) g false)

def toksFrom (d : Dev nD) : ℕ → ℕ → sProp 𝕄
  | 0, _ => iprop(emp)
  | n + 1, g => iprop(stepToks d g ∗ toksFrom d n (g + 1))

theorem kc_as (c : Dev nD) (g : Fin 6) : kcell (c, tk 2 g) = asC c (sslot g.val) := congrArg (Prod.mk (c : Thread nD τ)) (csem_as (sslot g.val))
theorem kc_ar (c : Dev nD) (g : Fin 6) : kcell (c, tk 3 g) = arC c (rslot g.val) := congrArg (Prod.mk (c : Thread nD τ)) (csem_ar (rslot g.val))
theorem kc_bs (c : Dev nD) (g : Fin 6) : kcell (c, tk 4 g) = bsC c (sslot g.val) := congrArg (Prod.mk (c : Thread nD τ)) (csem_bs (sslot g.val))
theorem kc_br (c : Dev nD) (g : Fin 6) : kcell (c, tk 5 g) = brC c (rslot g.val) := congrArg (Prod.mk (c : Thread nD τ)) (csem_br (rslot g.val))

theorem step_toks (c : Dev nD) (g : Fin 6) : (bigSep Finset.univ fun k : Fin 8 => (tok (whose k c) k g : sProp 𝕄)) ⊢ iprop(stepToks c g.val ∗ cpToks c g.val) := by
  rw [bigSep_fin8]
  unfold tok
  rw [kc_as, kc_ar, kc_bs, kc_br]
  unfold stepToks cpToks
  iintro ⟨H0, H1, H2, H3, H4, H5, H6, H7⟩
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  iexact H7

/-- What device `c` pays with. -/
def payToks (c : Dev nD) : sProp 𝕄 := iprop(toksFrom c 6 0 ∗ cpToks c 0)

theorem pay_toks (c : Dev nD) : (bigSep Finset.univ fun g : Fin 6 => bigSep Finset.univ fun k : Fin 8 => (tok (whose k c) k g : sProp 𝕄)) ⊢ payToks c := by
  refine (bigSep_mono fun g _ => step_toks c g).trans ?_
  rw [bigSep_fin6]
  show iprop((stepToks c 0 ∗ cpToks c 0) ∗ (stepToks c 1 ∗ cpToks c 1) ∗ (stepToks c 2 ∗ cpToks c 2) ∗ (stepToks c 3 ∗ cpToks c 3) ∗ (stepToks c 4 ∗ cpToks c 4)
    ∗ (stepToks c 5 ∗ cpToks c 5)) ⊢ iprop((stepToks c 0 ∗ stepToks c 1 ∗ stepToks c 2 ∗ stepToks c 3 ∗ stepToks c 4 ∗ stepToks c 5 ∗ emp) ∗ cpToks c 0)
  iintro ⟨⟨H0, C0⟩, ⟨H1, -⟩, ⟨H2, -⟩, ⟨H3, -⟩, ⟨H4, -⟩, ⟨H5, -⟩⟩
  isplitr [C0]
  · isplitl [H0]; · iexact H0
    isplitl [H1]; · iexact H1
    isplitl [H2]; · iexact H2
    isplitl [H3]; · iexact H3
    isplitl [H4]; · iexact H4
    isplitl [H5]; · iexact H5
    iempintro
  iexact C0

theorem toks_around : (bigSep Finset.univ fun c : Dev nD => (toks c : sProp 𝕄)) ⊢ bigSep Finset.univ fun c : Dev nD => payToks c := by
  unfold toks
  rw [bigSep_univ_comm (fun (c : Dev nD) (k : Fin 8) => bigSep Finset.univ fun g : Fin 6 => (tok c k g : sProp 𝕄)),
    bigSep_congr (s := Finset.univ) (fun (k : Fin 8) _ => bigSep_univ_equiv (whose k) (fun c : Dev nD => bigSep Finset.univ fun g : Fin 6 => (tok c k g : sProp 𝕄))),
    bigSep_univ_comm (fun (k : Fin 8) (c : Dev nD) => bigSep Finset.univ fun g : Fin 6 => (tok (whose k c) k g : sProp 𝕄))]
  refine bigSep_mono fun c _ => ?_
  rw [bigSep_univ_comm (fun (k : Fin 8) (g : Fin 6) => (tok (whose k c) k g : sProp 𝕄))]
  exact pay_toks c

/-! ## The positions -/

/-- A device's positions at its cells. -/
def places (c : Dev nD) : sProp 𝕄 := iprop((at' (cpC c 0) 0 ∗ at' (cpC c 1) 0) ∗ at' (barC c) 0 ∗ ringAt c 0)

theorem places_intro (c : Dev nD) :
    (bigSep Finset.univ fun k : Fin 11 => (iprop(atPos ER (kcell (c, k)) 0 ∅ 0 ∗ reached ER (kcell (c, k)) 0) : sProp 𝕄)) ⊢ places c := by
  rw [bigSep_fin11]
  show iprop(at' (barC c) 0 ∗ at' (cpC c 0) 0 ∗ at' (cpC c 1) 0 ∗ at' (asC c 0) 0 ∗ at' (asC c 1) 0 ∗ at' (arC c 0) 0 ∗ at' (arC c 1) 0 ∗ at' (bsC c 0) 0 ∗ at' (bsC c 1) 0
    ∗ at' (brC c 0) 0 ∗ at' (brC c 1) 0) ⊢ iprop((at' (cpC c 0) 0 ∗ at' (cpC c 1) 0) ∗ at' (barC c) 0
      ∗ (at' (asC c 0) 0 ∗ at' (asC c 1) 0) ∗ (at' (arC c 1) 0 ∗ at' (arC c 0) 0) ∗ (at' (bsC c 0) 0 ∗ at' (bsC c 1) 0) ∗ (at' (brC c 1) 0 ∗ at' (brC c 0) 0))
  iintro ⟨Hb, Hc0, Hc1, Hs0, Hs1, Hr0, Hr1, Ht0, Ht1, Hq0, Hq1⟩
  isplitl [Hc0 Hc1]
  · isplitl [Hc0]; · iexact Hc0
    iexact Hc1
  isplitl [Hb]; · iexact Hb
  isplitl [Hs0 Hs1]
  · isplitl [Hs0]; · iexact Hs0
    iexact Hs1
  isplitl [Hr0 Hr1]
  · isplitl [Hr1]; · iexact Hr1
    iexact Hr0
  isplitl [Ht0 Ht1]
  · isplitl [Ht0]; · iexact Ht0
    iexact Ht1
  isplitl [Hq1]; · iexact Hq1
  iexact Hq0

theorem places_all : iprop((bigSep Finset.univ fun c : Dev nD => bigSep Finset.univ fun k : Fin 11 => (atPos ER (kcell (c, k)) 0 ∅ 0 : sProp 𝕄))
    ∗ bigSep Finset.univ fun c : Dev nD => bigSep Finset.univ fun k : Fin 11 => (reached ER (kcell (c, k)) 0 : sProp 𝕄)) ⊢ bigSep Finset.univ fun c : Dev nD => (places c : sProp 𝕄) := by
  rw [← bigSep_sep']
  refine bigSep_mono fun c _ => ?_
  rw [← bigSep_sep']
  exact places_intro c

/-! ## The global step -/

/-- What each device starts from: the records under some names, its positions, its tokens. -/
def G' (c : Dev nD) : sProp 𝕄 := iprop(∃ K, records m K ∗ places c ∗ payToks c)

theorem G'_intro (K : Dev nD × Fin 11 → ℕ) (c : Dev nD) : iprop(records m K ∗ places c ∗ payToks c) ⊢ G' m c := by
  unfold G'
  iintro H
  iexists K
  iexact H

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 11 => iprop(∃ κ : ℕ, cellInv ER (Rd m) κ (kcell ck))),
    bigSep_congr (s := Finset.univ) (fun (c : Dev nD) _ => bigSep_sep' Finset.univ (fun k : Fin 11 => (atPos ER (kcell (c, k)) 0 ∅ 0 : sProp 𝕄)) (fun k => reached ER (kcell (c, k)) 0)),
    bigSep_sep', ← bigSep_univ_prod (fun ck : Dev nD × Fin 11 => (reached ER (kcell ck) 0 : sProp 𝕄))]
  iintro ⟨HI, ⟨Hat, #HR⟩, Htok⟩
  ihave HK := (BI.bigSep_exists_pi Finset.univ (fun (ck : Dev nD × Fin 11) (κ : ℕ) => (cellInv ER (Rd m) κ (kcell ck) : sProp 𝕄))) $$ HI
  icases HK with ⟨%K, #HI⟩
  ihave Htk := (toks_around (F := F)) $$ Htok
  ihave Hrs := (Entails.of_eq (bigSep_univ_prod (fun ck : Dev nD × Fin 11 => (reached ER (kcell ck) 0 : sProp 𝕄)))) $$ HR
  ihave Hpl : (bigSep Finset.univ fun c : Dev nD => (places c : sProp 𝕄)) $$ [Hat Hrs]
  · iapply (places_all (F := F))
    isplitl [Hat]; · iexact Hat
    iexact Hrs
  iapply (bigSep_with_persistent (R := records m K) (Φ := fun c : Dev nD => iprop(places c ∗ payToks c)) (Ψ := G' m) fun c _ => G'_intro m K c)
  isplitr
  · unfold records; isplitl; · iexact HI
    iexact HR
  rw [bigSep_sep']
  isplitl [Hpl]; · iexact Hpl
  iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- What is owed device `d`'s cells for the `n` steps from `g` on. -/
def dueTo (d : Dev nD) : ℕ → ℕ → CellTallies nD τ sig ℕ
  | 0, _ => 0
  | n + 1, g => dueTo d n (g + 1) + tallyAt (brC d (rslot g)) g N + tallyAt (arC d (rslot g)) g N + tallyAt (barC d) g 1 + tallyAt (barC d) g 1

theorem dueTo_succ (d : Dev nD) (n g : ℕ) : dueTo d (n + 1) g = dueTo d n (g + 1) + tallyAt (brC d (rslot g)) g N + tallyAt (arC d (rslot g)) g N
    + tallyAt (barC d) g 1 + tallyAt (barC d) g 1 := rfl

theorem sum_owed : ∀ n g, ∑ d, owed d n g = ∑ d, dueTo d n g
  | 0, g => rfl
  | n + 1, g => by
    rw [Finset.sum_congr rfl fun d _ => owed_succ d n g, Finset.sum_congr rfl fun d _ => dueTo_succ d n g]
    simp only [Finset.sum_add_distrib]
    rw [sum_owed n (g + 1), ring_sum' (fun d => tallyAt (brC d (rslot g)) g N), ring_sum (fun d => tallyAt (arC d (rslot g)) g N),
      ring_sum (fun d => tallyAt (barC d) g 1), ring_sum' (fun d => tallyAt (barC d) g 1)]

theorem dueTo_at (d : Dev nD) : ∀ (n g : ℕ) (x : GSem nD τ sig), dueTo d n g x ≠ 0 → x.1 = (d : Thread nD τ)
  | 0, g, x, h => absurd rfl h
  | n + 1, g, x, h => by
    by_contra hx
    apply h
    rw [dueTo_succ, Pi.add_apply, Pi.add_apply, Pi.add_apply, Pi.add_apply, tallyAt_ne_cell (fun e => hx (congrArg Prod.fst e)), tallyAt_ne_cell (fun e => hx (congrArg Prod.fst e)),
      tallyAt_ne_cell (fun e => hx (congrArg Prod.fst e)), add_zero, add_zero, add_zero, add_zero]
    by_contra h'
    exact hx (dueTo_at d n (g + 1) x h')

theorem launchCred_eq (c : Dev nD) : (Pipeline.launchCred (fun d => owed d 6 0) c : sProp 𝕄) = cred (dueTo c 6 0) := by
  unfold Pipeline.launchCred
  rw [Pipeline.cred_core (c := c) (dueTo_at c 6 0)]
  refine bigSep_congr fun sm _ => ?_
  rw [Pipeline.tallyOn_launchCredit_owing, sum_owed, Finset.sum_apply, Finset.sum_eq_single c]
  · intro d _ hd
    by_contra h
    exact hd (congrArg (fun t : Thread nD τ => t.1) (dueTo_at d 6 0 _ h)).symm
  · intro h; exact absurd (Finset.mem_univ c) h

/-- The steps' tokens with their credits. -/
theorem resFrom_intro (d : Dev nD) : ∀ n g, iprop(toksFrom d n g ∗ cred (dueTo d n g)) ⊢ (resFrom d n g : sProp 𝕄)
  | 0, g => by iintro -; iempintro
  | n + 1, g => by
    rw [resFrom_succ, dueTo_succ, add_assoc _ (tallyAt (barC d) g 1), show (tallyAt (barC d) g 1 + tallyAt (barC d) g 1 : CellTallies nD τ sig ℕ) = tallyAt (barC d) g 2 by
      unfold tallyAt; rw [← tallyOn_add, ← Finsupp.single_add]]
    show iprop((stepToks d g ∗ toksFrom d n (g + 1)) ∗ _) ⊢ _
    iintro ⟨⟨Hs, Ht⟩, Hc⟩
    ihave Hc := (cred_add _ _).1 $$ Hc
    icases Hc with ⟨Hc, Hbar⟩
    ihave Hc := (cred_add _ _).1 $$ Hc
    icases Hc with ⟨Hc, Har⟩
    ihave Hc := (cred_add _ _).1 $$ Hc
    icases Hc with ⟨Hc, Hbr⟩
    isplitl [Hs Hbar Har Hbr]
    · unfold stepRes stepToks
      isplitl [Hs]; · iexact Hs
      isplitl [Hbar]; · iexact Hbar
      isplitl [Har]; · iexact Har
      iexact Hbr
    iapply (resFrom_intro d n (g + 1))
    isplitl [Ht]; · iexact Ht
    iexact Hc

end Cert.Ring

end
-- ==== Proof.Slots.lean ====
/- The buffers as the launch hands them over, and as the body of a device uses them. -/
module

public import proofs.«01_k».proof.Proof.Ghost
public import Idealize.ShloMosaic.Lib.Pipeline.Launch
public import Idealize.ShloMosaic.Lib.Pipeline.Kit

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## A pair of slots -/

theorem mem_slot (i : Fin 2) (x : S2x128x1024.Idx) : x ∈ (slotR i).set ↔ (x 0).val = i.val := by
  rw [Rect.mem_set_unit]
  constructor
  · intro h
    have h0 := h 0
    simp only [Matrix.cons_val_zero] at h0
    have : (S1x128x1024.size 0) = 1 := rfl
    omega
  · intro h a
    have hx := (x a).isLt
    fin_cases a
    · exact ⟨le_of_eq h.symm, by show (x 0).val < i.val + 1; omega⟩
    · exact ⟨Nat.zero_le _, by show (x 1).val < 0 + 128; rw [Nat.zero_add]; exact hx⟩
    · exact ⟨Nat.zero_le _, by show (x 2).val < 0 + 1024; rw [Nat.zero_add]; exact hx⟩

theorem slots_compl : (slotR 1).set = Finset.univ \ (slotR 0).set := by
  ext x
  rw [Finset.mem_sdiff, mem_slot, mem_slot]
  have hx : (x 0).val < 2 := (x 0).isLt
  simp only [Finset.mem_univ, true_and, Fin.val_zero, Fin.val_one]
  omega

theorem slotA_set (i : Fin 2) : (slotM aM i).view.set = (slotR i).set := by rw [slot_set]; exact View.set_slice_whole _ _
theorem slotB_set (i : Fin 2) : (slotM bM i).view.set = (slotR i).set := by rw [slot_set]; exact View.set_slice_whole _ _

section
variable (d : Dev nD)

theorem slotsA_split : (iprop(∃ f : Buf (Elt F) ((d : Thread nD τ).loc cc0_scratch7), ((d : Thread nD τ).loc cc0_scratch7) ↦{fullShare} f) : sProp 𝕄)
    ⊢ iprop(some' d (slotM aM 0) ∗ some' d (slotM aM 1)) := by
  iintro ⟨%f, H⟩
  ihave H := (pointsTo_split_subset (Finset.subset_univ (slotR 0).set)).1 $$ H
  icases H with ⟨H0, H1⟩
  unfold some' own owns
  rw [slotA_set, slotA_set, slots_compl]
  isplitl [H0]
  · iexists _; iexists f
    isplitr; · ipureintro; rfl
    iexact H0
  iexists _; iexists f
  isplitr; · ipureintro; rfl
  iexact H1
theorem slotsB_split : (iprop(∃ f : Buf (Elt F) ((d : Thread nD τ).loc cc0_scratch8), ((d : Thread nD τ).loc cc0_scratch8) ↦{fullShare} f) : sProp 𝕄)
    ⊢ iprop(some' d (slotM bM 0) ∗ some' d (slotM bM 1)) := by
  iintro ⟨%f, H⟩
  ihave H := (pointsTo_split_subset (Finset.subset_univ (slotR 0).set)).1 $$ H
  icases H with ⟨H0, H1⟩
  unfold some' own owns
  rw [slotB_set, slotB_set, slots_compl]
  isplitl [H0]
  · iexists _; iexists f
    isplitr; · ipureintro; rfl
    iexact H0
  iexists _; iexists f
  isplitr; · ipureintro; rfl
  iexact H1

theorem slotsA_join : iprop(some' d (slotM aM 0) ∗ some' d (slotM aM 1))
    ⊢ (iprop(∃ f : Buf (Elt F) ((d : Thread nD τ).loc cc0_scratch7), ((d : Thread nD τ).loc cc0_scratch7) ↦{fullShare} f) : sProp 𝕄) := by
  unfold some' own owns
  rw [slotA_set, slotA_set, slots_compl]
  iintro ⟨⟨%v, %f, -, H0⟩, ⟨%w, %g, -, H1⟩⟩
  ihave H := (pointsTo_join_subset (ℓ := (d : Thread nD τ).loc cc0_scratch7) (I := (slotR 0).set) (Finset.subset_univ _)) $$ [H0 H1]
  · isplitl [H0]; · iexact H0
    iexact H1
  iexists _; iexact H
theorem slotsB_join : iprop(some' d (slotM bM 0) ∗ some' d (slotM bM 1))
    ⊢ (iprop(∃ f : Buf (Elt F) ((d : Thread nD τ).loc cc0_scratch8), ((d : Thread nD τ).loc cc0_scratch8) ↦{fullShare} f) : sProp 𝕄) := by
  unfold some' own owns
  rw [slotB_set, slotB_set, slots_compl]
  iintro ⟨⟨%v, %f, -, H0⟩, ⟨%w, %g, -, H1⟩⟩
  ihave H := (pointsTo_join_subset (ℓ := (d : Thread nD τ).loc cc0_scratch8) (I := (slotR 0).set) (Finset.subset_univ _)) $$ [H0 H1]
  · isplitl [H0]; · iexact H0
    iexact H1
  iexists _; iexact H

/-! ## The square buffers -/

theorem any_intro {mm : Memref sig .tc .vmem S1024x1024 .f32} (h : mm.IsWhole) :
    (iprop(∃ f : Buf (Elt F) (mm.view.loc (d : Thread nD τ)), (mm.view.loc (d : Thread nD τ)) ↦{fullShare} f) : sProp 𝕄) ⊢ any d mm := by
  unfold any ownsSat
  rw [h.set_eq_univ]
  iintro ⟨%f, H⟩
  iexists f
  isplitr; · ipureintro; trivial
  iexact H
theorem any_elim {mm : Memref sig .tc .vmem S1024x1024 .f32} (h : mm.IsWhole) :
    any d mm ⊢ (iprop(∃ f : Buf (Elt F) (mm.view.loc (d : Thread nD τ)), (mm.view.loc (d : Thread nD τ)) ↦{fullShare} f) : sProp 𝕄) := by
  unfold any ownsSat
  rw [h.set_eq_univ]
  iintro ⟨%f, -, H⟩
  iexists f
  iexact H

theorem bufs_open : (Pipeline.scopedRest spec0 d : sProp 𝕄)
    ⊢ iprop(square d ∗ (some' d (slotM aM 0) ∗ some' d (slotM aM 1)) ∗ some' d (slotM bM 0) ∗ some' d (slotM bM 1)) := by
  rw [scopedRest0_eq]
  iintro ⟨H0, H1, H2, H3, H4, H5, H6, H7, H8⟩
  isplitl [H0 H1 H2 H3 H4 H5 H6]
  · unfold square
    isplitl [H0]; · iapply (any_intro d (mm := wqM) (Memref.isWhole_whole _)); iexact H0
    isplitl [H1]; · iapply (any_intro d (mm := woM) (Memref.isWhole_whole _)); iexact H1
    isplitl [H2]; · iapply (any_intro d (mm := xpM) (Memref.isWhole_whole _)); iexact H2
    isplitl [H3]; · iapply (any_intro d (mm := kpM) (Memref.isWhole_whole _)); iexact H3
    isplitl [H4]; · iapply (any_intro d (mm := vpM) (Memref.isWhole_whole _)); iexact H4
    isplitl [H5]; · iapply (any_intro d (mm := ctxM) (Memref.isWhole_whole _)); iexact H5
    iapply (any_intro d (mm := partM) (Memref.isWhole_whole _)); iexact H6
  isplitl [H7]; · iapply (slotsA_split d); iexact H7
  iapply (slotsB_split d); iexact H8

theorem bufs_close : iprop(square d ∗ (some' d (slotM aM 0) ∗ some' d (slotM aM 1)) ∗ some' d (slotM bM 0) ∗ some' d (slotM bM 1))
    ⊢ (Pipeline.scopedRest spec0 d : sProp 𝕄) := by
  rw [scopedRest0_eq]
  unfold square
  iintro ⟨⟨H0, H1, H2, H3, H4, H5, H6⟩, H7, H8⟩
  isplitl [H0]; · iapply (any_elim d (mm := wqM) (Memref.isWhole_whole _)); iexact H0
  isplitl [H1]; · iapply (any_elim d (mm := woM) (Memref.isWhole_whole _)); iexact H1
  isplitl [H2]; · iapply (any_elim d (mm := xpM) (Memref.isWhole_whole _)); iexact H2
  isplitl [H3]; · iapply (any_elim d (mm := kpM) (Memref.isWhole_whole _)); iexact H3
  isplitl [H4]; · iapply (any_elim d (mm := vpM) (Memref.isWhole_whole _)); iexact H4
  isplitl [H5]; · iapply (any_elim d (mm := ctxM) (Memref.isWhole_whole _)); iexact H5
  isplitl [H6]; · iapply (any_elim d (mm := partM) (Memref.isWhole_whole _)); iexact H6
  isplitl [H7]; · iapply (slotsA_join d); iexact H7
  iapply (slotsB_join d); iexact H8

/-! ## The two weights, in and out of their arrays -/

/-- What the copies leave of the two weights. -/
def wRest : sProp 𝕄 :=
  iprop((((d : Thread nD τ).loc main_arg1) ↦[Finset.univ \ (wqC d).view.set]{fullShare} m ((d : Thread nD τ).loc main_arg1))
    ∗ ((d : Thread nD τ).loc main_arg4) ↦[Finset.univ \ (woC d).view.set]{fullShare} m ((d : Thread nD τ).loc main_arg4))
/-- The two weights whole. -/
def weights : sProp 𝕄 :=
  iprop((((d : Thread nD τ).loc main_arg1) ↦{fullShare} m ((d : Thread nD τ).loc main_arg1)) ∗ ((d : Thread nD τ).loc main_arg4) ↦{fullShare} m ((d : Thread nD τ).loc main_arg4))

theorem weights_open : weights m d ⊢ iprop((wqPts m d ∗ woPts m d) ∗ wRest m d) := by
  unfold weights wRest wqPts woPts
  iintro ⟨H1, H4⟩
  ihave H1 := (pointsTo_split_subset (ℓ := (d : Thread nD τ).loc main_arg1) (I := (wqC d).view.set) (Finset.subset_univ _)).1 $$ H1
  ihave H4 := (pointsTo_split_subset (ℓ := (d : Thread nD τ).loc main_arg4) (I := (woC d).view.set) (Finset.subset_univ _)).1 $$ H4
  icases H1 with ⟨H1, R1⟩
  icases H4 with ⟨H4, R4⟩
  isplitl [H1 H4]
  · isplitl [H1]; · iexact H1
    iexact H4
  isplitl [R1]; · iexact R1
  iexact R4
theorem weights_close : iprop((wqPts m d ∗ woPts m d) ∗ wRest m d) ⊢ weights m d := by
  unfold weights wRest wqPts woPts
  iintro ⟨⟨H1, H4⟩, R1, R4⟩
  isplitl [H1 R1]
  · iapply (pointsTo_split_subset (ℓ := (d : Thread nD τ).loc main_arg1) (I := (wqC d).view.set) (Finset.subset_univ _)).2
    isplitl [H1]; · iexact H1
    iexact R1
  iapply (pointsTo_split_subset (ℓ := (d : Thread nD τ).loc main_arg4) (I := (woC d).view.set) (Finset.subset_univ _)).2
  isplitl [H4]; · iexact H4
  iexact R4

end

end Cert.Ring

end
-- ==== Proof.Launch.lean ====
/- The launch: the kernel's proof data, its body's obligation, and the run of the whole program. -/
module

public import proofs.«01_k».proof.Proof.Slots
public import proofs.«01_k».proof.Proof.Gen.KernelIdeal.Frame
public import Idealize.ShloMosaic.Lib.Pipeline.CollectiveSegs
public import Idealize.ShloMosaic.Lib.Pipeline.Launch
public import Idealize.ShloMosaic.Lib.Pipeline.Kit

@[expose] public section

noncomputable section

namespace Cert.Ring

open Cert.KernelIdeal Cert.KernelIdeal.Gen Cert.KernelIdeal.Facts
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-! ## The proof data -/

/-- What device `c` starts from: the ghost state, its credit, the levels, the two weights. -/
def start (c : Dev nD) : sProp 𝕄 := iprop(G' m c ∗ cred (dueTo c 6 0) ∗ levAts L lv ∗ weights m c)

def Φ₀ (c : Dev nD) : sProp 𝕄 := iprop(start m c ∗ Pipeline.scopedRest spec0 c)
/-- After the body: every semaphore at zero, the weights and the buffers back. -/
def Φ₁ (c : Dev nD) : sProp 𝕄 :=
  iprop((unscopedSems0 c ∗ weights m c) ∗ Pipeline.ownSems0 (Ix := ℕ) (Name := ℕ) (U := UU) (Lvl := ℕ) (Val := Elt F) (τ := τ) osem c ∗ Pipeline.scopedRest spec0 c)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xS m c
    | ⟨1, _⟩ => kS m c
    | ⟨2, _⟩ => vS m c
    | ⟨3, _⟩ => outAll (part m)
  Φ t := match t with
    | ⟨0, _⟩ => Φ₀ m c
    | ⟨_ + 1, _⟩ => Φ₁ m c
  q _ := fullShare
  owed t := match t with
    | ⟨0, _⟩ => owed c 6 0
    | ⟨_ + 1, _⟩ => 0

/-! ## The cells closed -/

theorem close_cell (K : Dev nD × Fin 11 → ℕ) {d : Dev nD} {sm : SemLoc sig} {c : Cl} (hc : clOf sm = c) {κ : ℕ} {R : ℕ} (hR : rounds c ≤ R)
    (hI : records m K ⊢ cellInv ER (Rd m) κ ((d : Thread nD τ), sm)) :
    iprop(records m K ∗ at' ((d : Thread nD τ), sm) R) ⊢ |={Set.univ}=> (semVal ((d : Thread nD τ), sm) 0 : sProp 𝕄) := by
  unfold at'
  iintro ⟨HR, Hat, -⟩
  ihave HI := (hI) $$ HR
  imod (Rounds.cell_close ER (Rd m) (Set.mem_univ κ) (fun h => h) (R := R) (duties_later m d hc hR)) $$ [HI Hat] with H
  · isplitl [HI]; · iexact HI
    iexact Hat
  imodintro
  iexact H

theorem close_all (K : Dev nD × Fin 11 → ℕ) (d : Dev nD) :
    iprop(records m K ∗ at' (barC d) 6 ∗ (at' (cpC d 0) 1 ∗ at' (cpC d 1) 1) ∗ ringAt d 6)
      ⊢ |={Set.univ}=> iprop(unscopedSems0 d ∗ Pipeline.ownSems0 (Ix := ℕ) (Name := ℕ) (U := UU) (Lvl := ℕ) (Val := Elt F) (τ := τ) osem d) := by
  rw [ownSems0_eq, unscopedSems0_eq]
  show iprop(records m K ∗ at' (barC d) 6 ∗ (at' (cpC d 0) 1 ∗ at' (cpC d 1) 1)
    ∗ (at' (asC d 0) 3 ∗ at' (asC d 1) 3) ∗ (at' (arC d 1) 3 ∗ at' (arC d 0) 3) ∗ (at' (bsC d 0) 3 ∗ at' (bsC d 1) 3) ∗ (at' (brC d 1) 3 ∗ at' (brC d 0) 3)) ⊢ _
  iintro ⟨#HR, Hb, ⟨Hcp0, Hcp1⟩, ⟨Has0, Has1⟩, ⟨Har1, Har0⟩, ⟨Hbs0, Hbs1⟩, ⟨Hbr1, Hbr0⟩⟩
  imod (close_cell m K cl_bar (le_refl 6) (inv_bar m K d)) $$ [Hb] with Zb
  · isplitr; · iexact HR
    iexact Hb
  imod (close_cell m K (cl_cp 0) (le_refl 1) (inv_cp m K d 0)) $$ [Hcp0] with Zcp0
  · isplitr; · iexact HR
    iexact Hcp0
  imod (close_cell m K (cl_cp 1) (le_refl 1) (inv_cp m K d 1)) $$ [Hcp1] with Zcp1
  · isplitr; · iexact HR
    iexact Hcp1
  imod (close_cell m K (cl_as 0) (le_refl 3) (inv_as m K d 0)) $$ [Has0] with Zas0
  · isplitr; · iexact HR
    iexact Has0
  imod (close_cell m K (cl_as 1) (le_refl 3) (inv_as m K d 1)) $$ [Has1] with Zas1
  · isplitr; · iexact HR
    iexact Has1
  imod (close_cell m K (cl_ar 0) (le_refl 3) (inv_ar m K d 0)) $$ [Har0] with Zar0
  · isplitr; · iexact HR
    iexact Har0
  imod (close_cell m K (cl_ar 1) (le_refl 3) (inv_ar m K d 1)) $$ [Har1] with Zar1
  · isplitr; · iexact HR
    iexact Har1
  imod (close_cell m K (cl_bs 0) (le_refl 3) (inv_bs m K d 0)) $$ [Hbs0] with Zbs0
  · isplitr; · iexact HR
    iexact Hbs0
  imod (close_cell m K (cl_bs 1) (le_refl 3) (inv_bs m K d 1)) $$ [Hbs1] with Zbs1
  · isplitr; · iexact HR
    iexact Hbs1
  imod (close_cell m K (cl_br 0) (le_refl 3) (inv_br m K d 0)) $$ [Hbr0] with Zbr0
  · isplitr; · iexact HR
    iexact Hbr0
  imod (close_cell m K (cl_br 1) (le_refl 3) (inv_br m K d 1)) $$ [Hbr1] with Zbr1
  · isplitr; · iexact HR
    iexact Hbr1
  imodintro
  isplitl [Zb]; · iexact Zb
  isplitl [Zcp0]; · iexact Zcp0
  isplitl [Zcp1]; · iexact Zcp1
  isplitl [Zas0]; · iexact Zas0
  isplitl [Zas1]; · iexact Zas1
  isplitl [Zar0]; · iexact Zar0
  isplitl [Zar1]; · iexact Zar1
  isplitl [Zbs0]; · iexact Zbs0
  isplitl [Zbs1]; · iexact Zbs1
  isplitl [Zbr0]; · iexact Zbr0
  iexact Zbr1

/-! ## The body -/

/-- What the launch hands the body is what it starts from. -/
theorem before_intro (K : Dev nD × Fin 11 → ℕ) (c : Dev nD) :
    iprop(records m K ∗ places c ∗ payToks c ∗ cred (dueTo c 6 0) ∗ weights m c ∗ Pipeline.scopedRest spec0 c ∗ debt c (owed c 6 0)
        ∗ own c xM (xS m c) ∗ own c kM (kS m c) ∗ own c vM (vS m c) ∗ any c oM)
      ⊢ iprop(before m c ∗ wRest m c) := by
  unfold places payToks cpToks before ready
  iintro ⟨#HR, ⟨Hcp, Hbar, Hat⟩, ⟨Htok, Hcpt⟩, Hcred, Hw, Hbufs, Hdebt, Hx, Hk, Hv, Ho⟩
  ihave Hw := (weights_open m c) $$ Hw
  icases Hw with ⟨Hw, Hwr⟩
  ihave Hbufs := (bufs_open c) $$ Hbufs
  icases Hbufs with ⟨Hsq, ⟨HA0, HA1⟩, HB0, HB1⟩
  isplitr [Hwr]
  · isplitl [Hx Hk Hv Ho]
    · isplitl [Hx]; · iexact Hx
      isplitl [Hk]; · iexact Hk
      isplitl [Hv]; · iexact Hv
      iexact Ho
    isplitl [Hsq]; · iexact Hsq
    isplitl [HA0 HB0]
    · isplitl [HA0]; · iexact HA0
      iexact HB0
    isplitl [Hw]; · iexact Hw
    isplitl [Hcpt]; · iexact Hcpt
    isplitl [Hcp]; · iexact Hcp
    isplitl [Hbar]; · iexact Hbar
    isplitl [Hat]; · iexact Hat
    isplitl [Htok Hcred]
    · iapply (resFrom_intro c 6 0)
      isplitl [Htok]; · iexact Htok
      iexact Hcred
    isplitl [Hdebt]; · iexact Hdebt
    isplitr
    · isplitr
      · iapply (reached_bar m K (prv c)); iexact HR
      iapply (reached_bar m K (nxt c)); iexact HR
    isplitl [HA1]; · iexact HA1
    iexact HB1
  iexact Hwr

/-- What the body ends with, its cells closed. -/
theorem after_elim (K : Dev nD × Fin 11 → ℕ) (c : Dev nD) :
    iprop(records m K ∗ after m c ∗ wRest m c)
      ⊢ |={Set.univ}=> iprop(Φ₁ m c ∗ debt c 0 ∗ own c xM (xS m c) ∗ own c kM (kS m c) ∗ own c vM (vS m c) ∗ own c oM (outAll (part m))) := by
  unfold after ready Φ₁
  iintro ⟨#HR, ⟨Hio, Hsq, ⟨HA0, HB0⟩, Hw, Hcp, Hbar, Hat, -, Hdebt, -, HA1, HB1⟩, Hwr⟩
  imod (close_all m K c) $$ [Hbar Hcp Hat] with Hz
  · isplitr; · iexact HR
    isplitl [Hbar]; · iexact Hbar
    isplitl [Hcp]; · iexact Hcp
    iexact Hat
  imodintro
  icases Hz with ⟨Hzu, Hzo⟩
  isplitl [Hzu Hzo Hw Hwr Hsq HA0 HA1 HB0 HB1]
  · isplitl [Hzu Hw Hwr]
    · isplitl [Hzu]; · iexact Hzu
      iapply (weights_close m c)
      isplitl [Hw]; · iexact Hw
      iexact Hwr
    isplitl [Hzo]; · iexact Hzo
    iapply (bufs_close c)
    isplitl [Hsq]; · iexact Hsq
    isplitl [HA0 HA1]
    · isplitl [HA0]; · iexact HA0
      iexact HA1
    isplitl [HB0]; · iexact HB0
    iexact HB1
  isplitl [Hdebt]; · iexact Hdebt
  iexact Hio

/-- The kernel's body, as called at its one point. -/
abbrev theBody : P F :=
  cc0__body (F := F) (Memref.whole cc0_stg0_0) (Memref.isWhole_whole _) (Memref.whole main_arg1) (Memref.isWhole_whole _) (Memref.whole cc0_stg1_0) (Memref.isWhole_whole _)
      (Memref.whole cc0_stg2_0) (Memref.isWhole_whole _) (Memref.whole main_arg4) (Memref.isWhole_whole _) (Memref.whole cc0_stg3_0) (Memref.isWhole_whole _)
      (Memref.whole cc0_scratch0) (Memref.isWhole_whole _) (Memref.whole cc0_scratch1) (Memref.isWhole_whole _) (Memref.whole cc0_scratch2) (Memref.isWhole_whole _)
      (Memref.whole cc0_scratch3) (Memref.isWhole_whole _) (Memref.whole cc0_scratch4) (Memref.isWhole_whole _) (Memref.whole cc0_scratch5) (Memref.isWhole_whole _)
      (Memref.whole cc0_scratch6) (Memref.isWhole_whole _) (Memref.whole cc0_scratch7) (Memref.isWhole_whole _) (Memref.whole cc0_scratch8) (Memref.isWhole_whole _)
      cc0_scratch9 cc0_scratch10 cc0_scratch11 cc0_scratch12 cc0_scratch13

theorem body_clean (c : Dev nD) (Q : PUnit → sProp 𝕄) : W c (cleanP c) Q ⊢ W c theBody Q := by
  unfold theBody
  rw [body_eq]
  unfold W
  rw [Prog.lift, Prog.bind_op, wp_deviceId, Prog.bind_ret, raw_eq]

theorem wp_body (c : Dev nD) (Q : PUnit → sProp 𝕄) :
    iprop(start m c ∗ Pipeline.scopedRest spec0 c ∗ debt c (owed c 6 0) ∗ own c xM (xS m c) ∗ own c kM (kS m c) ∗ own c vM (vS m c) ∗ any c oM)
      ⊢ iprop(((Φ₁ m c ∗ debt c 0 ∗ own c xM (xS m c) ∗ own c kM (kS m c) ∗ own c vM (vS m c) ∗ own c oM (outAll (part m))) -∗ Q ⟨⟩) -∗ W c theBody Q) := by
  unfold start G'
  iintro ⟨⟨⟨%K, #HR, Hpl, Hpt⟩, Hcred, Hlev, Hw⟩, Hbufs, Hdebt, Hx, Hk, Hv, Ho⟩ Hend
  ihave Hb := (before_intro m K c) $$ [Hpl Hpt Hcred Hw Hbufs Hdebt Hx Hk Hv Ho]
  · isplitr; · iexact HR
    isplitl [Hpl]; · iexact Hpl
    isplitl [Hpt]; · iexact Hpt
    isplitl [Hcred]; · iexact Hcred
    isplitl [Hw]; · iexact Hw
    isplitl [Hbufs]; · iexact Hbufs
    isplitl [Hdebt]; · iexact Hdebt
    isplitl [Hx]; · iexact Hx
    isplitl [Hk]; · iexact Hk
    isplitl [Hv]; · iexact Hv
    iexact Ho
  icases Hb with ⟨Hb, Hwr⟩
  iapply (body_clean c Q)
  iapply wp_fupd
  iapply (wp_clean m K (d := c) (fun a => iprop(|={Set.univ}=> Q a))) $$ [Hlev Hb]
  · isplitr; · iexact HR
    isplitl [Hlev]; · iexact Hlev
    iexact Hb
  iintro Haf
  imod (after_elim m K c) $$ [Haf Hwr] with H
  · isplitr; · iexact HR
    isplitl [Haf]; · iexact Haf
    iexact Hwr
  imodintro
  iapply Hend
  iexact H

/-- The library's body obligation on core `c`. -/
def bodyPre (c : Dev nD) : sProp 𝕄 :=
  iprop(Φ₀ m c ∗ (dats m ρ 0 c).owesAt 0 t0_0.castSucc
    ∗ (∃ d, own c xM ((dats m ρ 0 c).before (0 : Fin 4) t0_0 d))
    ∗ (∃ d, own c kM ((dats m ρ 0 c).before (1 : Fin 4) t0_0 d))
    ∗ (∃ d, own c vM ((dats m ρ 0 c).before (2 : Fin 4) t0_0 d))
    ∗ (∃ d, own c oM ((dats m ρ 0 c).before (3 : Fin 4) t0_0 d)))

def bodyPost (c : Dev nD) : sProp 𝕄 :=
  iprop(Φ₁ m c ∗ (dats m ρ 0 c).owesAt 0 t0_0.succ ∗ own c xM (xS m c) ∗ own c kM (kS m c) ∗ own c vM (vS m c) ∗ own c oM (outAll (part m)))

theorem before_x (c : Dev nD) (d) : (dats m ρ 0 c).before (0 : Fin 4) t0_0 d = xS m c := by
  unfold Dat.before; rw [if_pos (fetch0_0 t0_0)]; rfl
theorem before_k (c : Dev nD) (d) : (dats m ρ 0 c).before (1 : Fin 4) t0_0 d = kS m c := by
  unfold Dat.before; rw [if_pos (fetch0_1 t0_0)]; rfl
theorem before_v (c : Dev nD) (d) : (dats m ρ 0 c).before (2 : Fin 4) t0_0 d = vS m c := by
  unfold Dat.before; rw [if_pos (fetch0_2 t0_0)]; rfl

theorem sound_body (c : Dev nD) : bodyPre m ρ c ⊢ W c theBody (fun _ => bodyPost m ρ c) := by
  unfold bodyPre Φ₀
  iintro ⟨⟨Hs, Hr⟩, Ho, ⟨%d0, Hx⟩, ⟨%d1, Hk⟩, ⟨%d2, Hv⟩, ⟨%d3, Hout⟩⟩
  unfold Dat.owesAt Pipeline.owesWithin
  rw [show (dats m ρ 0 c).owed t0_0.castSucc = owed c 6 0 from rfl]
  icases Ho with ⟨%Ws, %hW, HO⟩
  ihave Hx := (Entails.of_eq (congrArg (own c xM) (before_x m ρ c d0))) $$ Hx
  ihave Hk := (Entails.of_eq (congrArg (own c kM) (before_k m ρ c d1))) $$ Hk
  ihave Hv := (Entails.of_eq (congrArg (own c vM) (before_v m ρ c d2))) $$ Hv
  iapply (wp_body m c (fun _ => bodyPost m ρ c)) $$ [Hs Hr HO Hx Hk Hv Hout]
  · isplitl [Hs]; · iexact Hs
    isplitl [Hr]; · iexact Hr
    isplitl [HO]; · unfold debt; iexists Ws; iexact HO
    isplitl [Hx]; · iexact Hx
    isplitl [Hk]; · iexact Hk
    isplitl [Hv]; · iexact Hv
    unfold any
    iapply (ownsSat_intro _ _ _ (Φ := fun _ => True) trivial); iexact Hout
  unfold debt
  iintro ⟨HΦ, ⟨%W', HO⟩, Hio⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  iexact Hio

set_option maxRecDepth 65536 in
theorem body_obligation (c : Dev nD) : BodyObligation (dats (F := F) m ρ 0 c) (defs₀ (F := F)) Variants.none 0 Set.univ := fun t => by
  rw [fin_N0 t]
  rw [bigSep_W0, bigSep_W0]
  exact sound_body m ρ c

/-! ## The run -/

theorem ownSemFacts : Pipeline.OwnSemFacts cfg0.spec osem := by decide

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owed d 6 0) c ∗ prngReg c (ρ c) ∗ G' m c)
      ⊢ |={Set.univ}=> iprop(start m c ∗ emp) := by
  rw [launchCred_eq]
  iintro ⟨Hw, Hlev, Hcr, -, HG⟩
  ihave Hw := (Entails.of_eq ((Pipeline.unscopedRestP_none spec0 c (fun b => m ((c : Thread nD τ).loc b))).trans (unscopedRest0_eq c (fun b => m ((c : Thread nD τ).loc b))))) $$ Hw
  imodintro
  unfold start weights
  isplitl
  · isplitl [HG]; · iexact HG
    isplitl [Hcr]; · iexact Hcr
    isplitl [Hlev]; · iexact Hlev
    iexact Hw
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

theorem phi1_exit (c : Dev nD) :
    (dats m ρ 0 c).Φ (Fin.last cfg0.N) ⊢ iprop((unscopedSems0 c ∗ weights m c) ∗ Pipeline.ownSems0 osem c ∗ Pipeline.scopedRest cfg0.spec c) := by
  rw [show (dats m ρ 0 c).Φ (Fin.last cfg0.N) = Φ₁ m c from rfl]
  unfold Φ₁
  exact BI.Entails.refl _

theorem stage_waits (c : Dev nD) : (levAts L lv : sProp 𝕄) ⊢ Pipeline.cellsWaits cfgs (dats m ρ) 0 0 c :=
  Pipeline.cellsWaits_intro cfgs (dats m ρ) 0 0 c fun w s t => by
    rcases t with ⟨_ | _, ht⟩
    · exact mayWait_of (F := F) c _ (by decide) (above_owed c 6 0 (by decide)) (by fin_cases w <;> fin_cases s <;> exact Nat.zero_le _)
    · exact mayWait_of (F := F) c _ (by decide) (Above.zero (a := 0) (b := 0)) (by fin_cases w <;> fin_cases s <;> exact Nat.zero_le _)

/-- The weights and the barrier semaphore as the run ends: read off the final state. -/
theorem end_read (c : Dev nD) (s' : Phys nD τ sig (Elt F)) :
    iprop((unscopedSems0 c ∗ weights m c) ∗ emp ∗ SI s')
      ⊢ |={Set.univ}=> (iprop(⌜(∀ sm : SemLoc sig, sm.isScoped .tc = false → s'.mem.sem ((c.tc : Thread nD τ), sm) = 0)
          ∧ s'.mem.mem ((c : Thread nD τ).loc main_arg1) = m ((c : Thread nD τ).loc main_arg1)
          ∧ s'.mem.mem ((c : Thread nD τ).loc main_arg4) = m ((c : Thread nD τ).loc main_arg4)⌝ ∗ SI s') : sProp 𝕄) := by
  unfold weights
  iintro ⟨⟨Hu, H1, H4⟩, -, HSI⟩
  ihave H := (persistent_entails_right (SI_pointsTo_agree (st := s') (ℓ := (c : Thread nD τ).loc main_arg1) (I := Finset.univ) (q := fullShare) (f := m ((c : Thread nD τ).loc main_arg1)))) $$ [HSI H1]
  · isplitl [HSI]; · iexact HSI
    iexact H1
  icases H with ⟨%h1, HSI, -⟩
  ihave H := (persistent_entails_right (SI_pointsTo_agree (st := s') (ℓ := (c : Thread nD τ).loc main_arg4) (I := Finset.univ) (q := fullShare) (f := m ((c : Thread nD τ).loc main_arg4)))) $$ [HSI H4]
  · isplitl [HSI]; · iexact HSI
    iexact H4
  icases H with ⟨%h4, HSI, -⟩
  imod (Pipeline.unscopedSems0_read (X := unscopedSems0 c) (c := c) fupd_intro s') $$ [Hu HSI] with H
  · isplitl [Hu]; · iexact Hu
    iexact HSI
  icases H with ⟨%hs, HSI⟩
  imodintro
  isplitr
  · ipureintro
    exact ⟨hs, funext fun i => h1 i (Finset.mem_univ _), funext fun i => h4 i (Finset.mem_univ _)⟩
  iexact HSI

def finalA (c : Dev nD) (w : Fin cfg0.W) : Buf (Elt F) ((cfg0.win w).arr.view.loc (c : Thread nD τ)) := (dats m ρ 0 c).arrAt w cfg0.N

theorem flushed_out (c : Dev nD) (t : Fin cfg0.N) : (dats m ρ 0 c).flushed 3 t = ((cfg0.win 3).blk t).view.read (Elt F) (outAll (part m)) := by
  obtain rfl := fin_N0 t
  show (cfg0.win 3).cut (grid0.coords t0_0) (outAll (part m)) = _
  have hz' : (fun a => win0_3.index t0_0 a * main_v1.ty.shape.size a) = fun _ => 0 := funext fun a => by fin_cases a <;> decide
  exact (Memref.read_access_unit_zero (Elt F) main_v1 hz' (fun a => by rw [congrFun hz' a]; simp) (outAll (part m))).symm

theorem cover_out (i : (main_v1 : Ref sig .tc).ty.Idx) : i ∈ ((cfg0.win 3).blk t0_0).view.set := by
  show i ∈ ((View.whole main_v1).slice (win0_3.rect t0_0)).set
  rw [View.set_slice_whole, Rect.mem_set_unit]
  intro a
  have h0 : (i 0 : Nat) < 1024 := (i 0).isLt
  have h1 : (i 1 : Nat) < 1024 := (i 1).isLt
  match a with
  | ⟨0, _⟩ => show win0_3.index t0_0 0 * win0_3.size 0 ≤ (i 0 : Nat) ∧ (i 0 : Nat) < win0_3.index t0_0 0 * win0_3.size 0 + win0_3.xsize (grid0.coords t0_0) 0
              rw [show win0_3.index t0_0 0 * win0_3.size 0 = 0 from by decide +kernel, show win0_3.xsize (grid0.coords t0_0) 0 = 1024 from by decide +kernel]; omega
  | ⟨1, _⟩ => show win0_3.index t0_0 1 * win0_3.size 1 ≤ (i 1 : Nat) ∧ (i 1 : Nat) < win0_3.index t0_0 1 * win0_3.size 1 + win0_3.xsize (grid0.coords t0_0) 1
              rw [show win0_3.index t0_0 1 * win0_3.size 1 = 0 from by decide +kernel, show win0_3.xsize (grid0.coords t0_0) 1 = 1024 from by decide +kernel]; omega

theorem finalA_out (c : Dev nD) : finalA m ρ c (3 : Fin 4) = outAll (part m) :=
  (dats m ρ 0 c).arrAt_eq_of_cover 3 (outAll (part m)) (fun t _ => flushed_out m ρ c t) (fun i => ⟨t0_0, flush0_3 t0_0, cover_out i⟩)

/-- What every run ends in: the result array computed, the five arguments as launched, every semaphore at zero. -/
def Ends (r : PUnit × MemSt nD τ sig (Elt F)) : Prop :=
  (∀ c : Dev nD, r.2.mem ((c : Thread nD τ).loc main_v1) = outAll (part m)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

set_option maxRecDepth 65536 in
theorem run_main : θ_run defs (onTc (τ := τ) (main (F := F))) (s₀ m ρ) (Ends m) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 6 0) (howed₀ := fun _ => rfl) (howedN := fun _ => rfl)
    (L := L) (lv := lv) (hL := L_of_ne) (hwaits := stage_waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP]; · iexact HP
      iexact HG)
    (hglob := glob m)
    (hA := fun _ _ => rfl) (hpf := fun _ k => k.elim0)
    (X := start m) (Y := fun c => iprop(unscopedSems0 c ∗ weights m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1)
      ∧ s.mem ((c : Thread nD τ).loc main_arg4) = m ((c : Thread nD τ).loc main_arg4))
    (hY := end_read m)
    (hQ := fun _ h hs => ⟨fun c => ⟨((h c).1 3).trans (finalA_out m ρ c),
        ((h c).1 0).trans ((dats m ρ 0 c).arrAt_in 0 rfl _), (h c).2.2.2.1,
        ((h c).1 1).trans ((dats m ρ 0 c).arrAt_in 1 rfl _), ((h c).1 2).trans ((dats m ρ 0 c).arrAt_in 2 rfl _), (h c).2.2.2.2⟩,
      sem_eq_zero hs fun c => (h c).2.2.1⟩)

end Cert.Ring

end
-- ==== Proof.Frames.lean ====
/- The claims that say nothing of values: every program runs, leaves its arguments and every counter as they were, and the two idealizations are sanctioned. -/
module

public import proofs.«01_k».proof.Defs
public import proofs.«01_k».proof.Proof.Launch
public import proofs.«01_k».proof.Proof.Gen.Kernel
public import proofs.«01_k».proof.Proof.Gen.Reference.Frame
public import proofs.«01_k».proof.Proof.Gen.ReferenceIdeal.Frame

@[expose] public section

set_option maxRecDepth 65536

noncomputable section

namespace Cert.Proof

open Idealize.ShloMosaic Idealize.SL.Sem

/-- The two programs are one text: their bodies are the same, -/
theorem body_text : Cert.Kernel.cc0__body (F := Bits) = Cert.KernelIdeal.cc0__body (F := Bits) := rfl

/-- so their body tables are, case by case, -/
theorem defs₀_text : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- and so are the tables with the launch's own labels. -/
theorem defs_text : Cert.Kernel.defs (F := Bits) = Cert.KernelIdeal.defs (F := Bits) :=
  congrArg (Pipeline.defs (Cert.KernelIdeal.pcfgs (F := Bits))) defs₀_text

/-- The kernel's frame at its own floats, from the one run. -/
theorem frame_kernel : Cert.quiescent_Kernel := fun m ρ _ => by
  rw [defs_text]
  exact (θ_run (Cert.KernelIdeal.defs (F := Bits)) (onTc (τ := Cert.KernelIdeal.τ) (Cert.KernelIdeal.main (F := Bits))) ⟨m, fun _ => 0, ρ⟩).mono
    (fun _ h => ⟨fun c => (h.1 c).2, h.2⟩) (Cert.Ring.run_main (F := Bits) m ρ)

theorem frame_kernelIdeal : Cert.quiescent_KernelIdeal := fun m ρ _ =>
  (θ_run Cert.KernelIdeal.defs _ _).mono (fun _ h => ⟨fun c => (h.1 c).2, h.2⟩) (Cert.Ring.run_main (F := Ideal) m ρ)

theorem frame_referenceIdeal : Cert.quiescent_ReferenceIdeal := fun m ρ _ => Cert.ReferenceIdeal.Gen.frame m ρ

theorem frame_reference : Cert.quiescent_Reference := fun m ρ _ => Cert.Reference.Gen.frame m ρ

/-- The mask's literal, read as minus infinity. -/
theorem mask_named : Cert.preserves_Reference_ReferenceIdeal := IdealRules.named_const.statement _ _ _ _ _ rfl

end Cert.Proof

end
-- ==== Proof.Soft.lean ====
/- Attention of one row over the extended reals: the softmax of its scores, and the sum of the values it weights.

A score of −∞ takes no part, so a row may be read over any set of keys that holds the others. -/
module

public import Idealize.ShloMosaic.PureOps.Ideal.Laws
public import Idealize.ShloMosaic.Lib.IdealHost

@[expose] public section

noncomputable section

namespace Cert.Soft

open Idealize.ShloMosaic
open scoped BigOperators

variable {ι κ : Type} [Fintype ι] [Fintype κ]

/-- The greatest score. -/
def top (s : ι → EReal) : EReal := (Finset.univ : Finset ι).fold max ⊥ s

/-- A score's term, before it is divided by the sum. -/
def term (s : ι → EReal) (j : ι) : EReal := Ideal.exp (s j - top s)

/-- The sum of the terms. -/
def total (s : ι → EReal) : EReal := ∑ j, term s j

/-- The row's output: its values weighted by the softmax of its scores. -/
def attend (s v : ι → EReal) : EReal := ∑ j, Ideal.div (term s j) (total s) * v j

theorem top_eq_sup (s : ι → EReal) : top s = (Finset.univ : Finset ι).sup s := rfl

theorem exp_nonneg (x : EReal) : 0 ≤ Ideal.exp x := by
  induction x using EReal.rec with
  | bot => exact le_refl _
  | top => exact le_top
  | coe r => exact EReal.coe_nonneg.mpr (Real.exp_pos r).le

/-- Finite: neither infinity. -/
def IsFin (x : EReal) : Prop := ∃ r : ℝ, x = (r : EReal)

theorem IsFin.mul {x y : EReal} (hx : IsFin x) (hy : IsFin y) : IsFin (x * y) := by
  obtain ⟨a, rfl⟩ := hx; obtain ⟨b, rfl⟩ := hy; exact ⟨a * b, (EReal.coe_mul a b).symm⟩

/-- A real sum read as an extended real. -/
theorem coe_sum (r : ι → ℝ) : ((∑ i, r i : ℝ) : EReal) = ∑ i, (r i : EReal) :=
  map_sum (⟨⟨fun x : ℝ => (x : EReal), rfl⟩, EReal.coe_add⟩ : ℝ →+ EReal) r Finset.univ

theorem IsFin.sum {s : ι → EReal} (h : ∀ i, IsFin (s i)) : IsFin (∑ i, s i) := by
  choose r hr using h
  refine ⟨∑ i, r i, ?_⟩
  rw [coe_sum]
  exact Finset.sum_congr rfl fun i _ => hr i

/-- A finite factor goes through a sum. -/
theorem sum_mul_fin {s : ι → EReal} (h : ∀ i, IsFin (s i)) {c : EReal} (hc : IsFin c) : (∑ i, s i) * c = ∑ i, s i * c := by
  choose r hr using h
  obtain ⟨b, rfl⟩ := hc
  have e : ∀ i, s i * (b : EReal) = ((r i * b : ℝ) : EReal) := fun i => by rw [hr i, EReal.coe_mul]
  rw [Finset.sum_congr rfl fun i _ => hr i, Finset.sum_congr rfl fun i _ => e i, ← coe_sum, ← coe_sum, ← EReal.coe_mul, Finset.sum_mul]

/-- The sum of a row with a finite greatest score is not zero. -/
theorem total_ne_zero [Nonempty ι] {s : ι → EReal} (h : ∀ i, IsFin (s i)) : total s ≠ 0 := by
  obtain ⟨k, -, hk⟩ := Finset.exists_mem_eq_sup (Finset.univ : Finset ι) Finset.univ_nonempty s
  have hk' : term s k = 1 := by
    obtain ⟨r, hr⟩ := h k
    unfold term
    rw [top_eq_sup, hk, hr, ← EReal.coe_sub, sub_self, Ideal.exp_coe, Real.exp_zero]
    rfl
  have h1 : term s k ≤ total s := Finset.single_le_sum (f := term s) (fun i _ => exp_nonneg _) (Finset.mem_univ k)
  intro e
  rw [e, hk'] at h1
  exact absurd h1 (by norm_num)

section Masked

variable {s : κ → EReal} {e : ι → κ} (he : Function.Injective e) (hs : ∀ k, (∀ i, e i ≠ k) → s k = ⊥)
include he hs

theorem top_masked : top s = top (s ∘ e) := by
  rw [top_eq_sup, top_eq_sup]
  refine le_antisymm (Finset.sup_le fun k _ => ?_) (Finset.sup_le fun i _ => Finset.le_sup (f := s) (Finset.mem_univ (e i)))
  by_cases h : ∃ i, e i = k
  · obtain ⟨i, rfl⟩ := h
    exact Finset.le_sup (f := s ∘ e) (Finset.mem_univ i)
  · rw [hs k fun i hi => h ⟨i, hi⟩]; exact bot_le

theorem term_masked (i : ι) : term s (e i) = term (s ∘ e) i := by
  unfold term; rw [top_masked he hs]; rfl

theorem term_zero (k : κ) (hk : ∀ i, e i ≠ k) : term s k = 0 := by
  unfold term; rw [hs k hk, EReal.bot_sub]; rfl

theorem sum_masked (f : κ → EReal) (g : ι → EReal) (hf : ∀ i, f (e i) = g i) (h0 : ∀ k, (∀ i, e i ≠ k) → f k = 0) :
    ∑ k, f k = ∑ i, g i := by
  classical
  rw [← Finset.sum_congr rfl fun i _ => hf i, ← Finset.sum_image (s := Finset.univ) (g := e) (f := f) (fun a _ b _ h => he h)]
  refine (Finset.sum_subset (Finset.subset_univ _) fun k _ hk => h0 k fun i hi => hk ?_).symm
  exact Finset.mem_image.mpr ⟨i, Finset.mem_univ i, hi⟩

theorem total_masked : total s = total (s ∘ e) :=
  sum_masked he hs _ _ (term_masked he hs) (term_zero he hs)

/-- A row whose scores are −∞ off some keys is the row over those keys. -/
theorem attend_masked (v : κ → EReal) (h0 : total (s ∘ e) ≠ 0) : attend s v = attend (s ∘ e) (v ∘ e) := by
  unfold attend
  refine sum_masked he hs _ _ (fun i => ?_) (fun k hk => ?_)
  · rw [term_masked he hs, total_masked he hs]; rfl
  · rw [term_zero he hs k hk, total_masked he hs, Ideal.zero_div h0, zero_mul]

end Masked

end Cert.Soft

end
-- ==== Proof.HeadValue.lean ====
/- One head of one class over the extended reals: each of its rows is the attention of that row over the class. -/
module

public import proofs.«01_k».proof.Proof.Pure
public import proofs.«01_k».proof.Proof.Soft
public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value

@[expose] public section

noncomputable section

namespace Cert.Ring

open Cert.KernelIdeal Cert.KernelIdeal.Gen Cert.KernelIdeal.Facts Cert.Soft
open Idealize.ShloMosaic Idealize.ShloMosaic.ValueIdx
open scoped BigOperators

/-- The scale of the scores, 128^(−1/2) as a float. -/
def scale : EReal := Ideal.ofBits .f32 0x3DB504F3#32

theorem scale_fin : IsFin scale := by
  unfold scale
  simp only [Ideal.ofBits, Ideal.ieee]
  exact ⟨_, rfl⟩

theorem negInf_bits : Ideal.ofBits .f32 0xFF800000#32 = ⊥ := by
  simp [Ideal.ofBits, Ideal.ieee]

theorem qOf_apply (xr : FVec Ideal S256x1024 .f32) (wq : FVec Ideal S1024x1024 .f32) (r : Fin 256) (c : Fin 1024) :
    qOf xr wq (ix2 r c) = (∑ k : Fin 1024, xr (ix2 r k) * wq (ix2 k c)) * scale := by
  show FloatOps.matmul (DotDims.plain 256 1024 1024) none xr wq (constant (F := Ideal) S256x1024 .f32 0x00000000#32) (ix2 r c) * scale = _
  rw [Ideal.matmul_plain_apply, constant_apply, Ideal.ofBits_zero_f32, zero_add]

/-- The scores of row `p` of a head. -/
def rowScore (q k : FVec Ideal S256x128 .f32) (p : Fin 256) : Fin 256 → EReal := fun j => ∑ e : Fin 128, q (ix2 p e) * k (ix2 j e)

/-- The scores of a head. -/
def scoresOf (q k : FVec Ideal S256x128 .f32) : FVec Ideal S256x256 .f32 :=
  matmul dot_S256x128_S256x128_S256x256_1_1_0_0_n_n none q k (constant S256x256 .f32 0x00000000#32)

theorem scoresOf_apply (q k : FVec Ideal S256x128 .f32) (p j : Fin 256) : scoresOf q k (ix2 p j) = rowScore q k p j := by
  show FloatOps.matmul (DotDims.transposedRhs 256 128 256) none q k (constant (F := Ideal) S256x256 .f32 0x00000000#32) (ix2 p j) = _
  rw [Ideal.matmul_transposedRhs_apply, constant_apply, Ideal.ofBits_zero_f32, zero_add]
  rfl

/-- A number per row, spread over the row's columns. -/
theorem spread_apply (y : FVec Ideal S256 .f32) (p j : Fin 256) :
    broadcastTo S256x256 (shapeCast S256x1 y shapeCasts_S256_S256x1) broadcasts_S256x1_S256x256 (ix2 p j) = y (ix1 p) := by
  refine (broadcastTo_apply _ broadcasts_S256x1_S256x256 (ix2 p j) (ix2 p (0 : Fin 1)) ?_).trans (shapeCast_a_a1_apply y shapeCasts_S256_S256x1 p 0)
  intro a
  match a with
  | ⟨0, _⟩ => show p.val = if (256 : Nat) = 1 then 0 else p.val; rw [if_neg (by decide)]
  | ⟨1, _⟩ => show 0 = if (1 : Nat) = 1 then 0 else j.val; rw [if_pos rfl]

theorem lift_row (h : S256x256.Reduces [1] S256) (p j : Fin 256) : h.lift (ix1 p) j = ix2 p j :=
  funext fun a => Fin.ext (by match a with | ⟨0, _⟩ => rfl | ⟨1, _⟩ => rfl)

theorem rowMax_apply (x : FVec Ideal S256x256 .f32) (p : Fin 256) :
    multiReduction .maximumf [1] S256 x 0xFF800000#32 reduces_S256x256_S256 (.inl rfl) rfl (ix1 p) = top fun j : Fin 256 => x (ix2 p j) := by
  refine (Ideal.multiReduction_maximumf_single x _ _ _ _ _).trans ?_
  show (Finset.univ : Finset (Fin 256)).fold max (Ideal.ofBits .f32 0xFF800000#32) _ = _
  rw [negInf_bits]
  exact congrArg (fun g => (Finset.univ : Finset (Fin 256)).fold max ⊥ g) (funext fun j => congrArg x (lift_row _ p j))

theorem rowSum_apply (x : FVec Ideal S256x256 .f32) (p : Fin 256) :
    multiReduction .add [1] S256 x 0x00000000#32 reduces_S256x256_S256 (.inl rfl) rfl (ix1 p) = ∑ j : Fin 256, x (ix2 p j) := by
  refine (Ideal.multiReduction_add_single x _ _ _ _ _).trans ?_
  exact Finset.sum_congr rfl fun j _ => congrArg x (lift_row _ p j)

theorem expOf_apply (q k : FVec Ideal S256x128 .f32) (p j : Fin 256) : expOf q k (ix2 p j) = term (rowScore q k p) j := by
  show Ideal.exp (scoresOf q k (ix2 p j) - broadcastTo S256x256 (shapeCast S256x1 (multiReduction .maximumf [1] S256 (scoresOf q k) 0xFF800000#32
    reduces_S256x256_S256 (.inl rfl) rfl) shapeCasts_S256_S256x1) broadcasts_S256x1_S256x256 (ix2 p j)) = _
  rw [spread_apply, rowMax_apply, scoresOf_apply, show (fun i : Fin 256 => scoresOf q k (ix2 p i)) = rowScore q k p from funext fun i => scoresOf_apply q k p i]
  rfl

theorem headOf_apply (q k v : FVec Ideal S256x128 .f32) (p : Fin 256) (e : Fin 128) :
    headOf q k v (ix2 p e) = attend (rowScore q k p) fun j => v (ix2 j e) := by
  show FloatOps.matmul (DotDims.plain 256 256 128) none
    (divf (expOf q k) (broadcastTo S256x256 (shapeCast S256x1 (multiReduction .add [1] S256 (expOf q k) 0x00000000#32 reduces_S256x256_S256 (.inl rfl) rfl)
      shapeCasts_S256_S256x1) broadcasts_S256x1_S256x256)) v (constant (F := Ideal) S256x128 .f32 0x00000000#32) (ix2 p e) = _
  rw [Ideal.matmul_plain_apply, constant_apply, Ideal.ofBits_zero_f32, zero_add]
  refine Finset.sum_congr rfl fun j _ => congrArg (· * v (ix2 j e)) ?_
  rw [divf_apply, spread_apply, rowSum_apply, expOf_apply, Finset.sum_congr rfl fun i _ => expOf_apply q k p i]
  rfl

end Cert.Ring

end
-- ==== Proof.Spec.lean ====
/- The mathematics both programs compute: attention within a class of rows, then the output projection.

Rows come in blocks of 64, and block `b` is in class `b % 4`. A row attends to the rows of its own class. -/
module

public import proofs.«01_k».proof.Proof.HeadValue

@[expose] public section

noncomputable section

namespace Cert.Spec

open Cert.Soft Cert.Ring
open Idealize.ShloMosaic
open scoped BigOperators

/-- A matrix of extended reals. -/
abbrev Mat (a b : ℕ) : Type := Fin a → Fin b → EReal

/-- Column `e` of head `h`. -/
def col (h : Fin 32) (e : Fin 128) : Fin 4096 := ⟨128 * h.val + e.val, by have := h.isLt; have := e.isLt; omega⟩
/-- The head a column is in. -/
def hd (c : Fin 4096) : Fin 32 := ⟨c.val / 128, by have := c.isLt; omega⟩
/-- The class a row is in. -/
def classOf (r : Fin 1024) : Fin 4 := ⟨r.val / 64 % 4, Nat.mod_lt _ (by decide)⟩
/-- Row `p` of class `c`. -/
def row (c : Fin 4) (p : Fin 256) : Fin 1024 := ⟨permRow (256 * c.val + p.val), permRow_lt _⟩
/-- A row's place in its class. -/
def place (r : Fin 1024) : Fin 256 := ⟨64 * (r.val / 64 / 4) + r.val % 64, by have := r.isLt; omega⟩

theorem row_val (c : Fin 4) (p : Fin 256) : (row c p).val = 64 * (4 * (p.val / 64) + c.val) + p.val % 64 := by
  have := c.isLt
  have := p.isLt
  have e1 : (256 * c.val + p.val) / 64 = 4 * c.val + p.val / 64 := by omega
  have e2 : (256 * c.val + p.val) % 64 = p.val % 64 := by omega
  show 64 * ((256 * c.val + p.val) / 64 % 4 * 4 + (256 * c.val + p.val) / 64 / 4 % 4) + (256 * c.val + p.val) % 64 = _
  rw [e1, e2]
  omega

theorem row_place (r : Fin 1024) : row (classOf r) (place r) = r := Fin.ext (by
  have := r.isLt
  rw [row_val]
  show 64 * (4 * ((64 * (r.val / 64 / 4) + r.val % 64) / 64) + r.val / 64 % 4) + (64 * (r.val / 64 / 4) + r.val % 64) % 64 = r.val
  omega)

theorem classOf_row (c : Fin 4) (p : Fin 256) : classOf (row c p) = c := Fin.ext (by
  have := c.isLt
  show (row c p).val / 64 % 4 = c.val
  rw [row_val]
  omega)

theorem row_inj (c : Fin 4) : Function.Injective (row c) := fun p q h => Fin.ext (by
  have := c.isLt
  have e : (row c p).val = (row c q).val := congrArg Fin.val h
  rw [row_val, row_val] at e
  omega)

variable (x : Mat 1024 1024) (wq k v : Mat 1024 4096) (wo : Mat 4096 1024)

/-- The queries. -/
def query (r : Fin 1024) (c : Fin 4096) : EReal := ∑ t, x r t * wq t c
/-- The scores of head `h`, of row `r` against row `j`. -/
def score (h : Fin 32) (r j : Fin 1024) : EReal := (∑ e, query x wq r (col h e) * k j (col h e)) * scale
/-- The scores with those of other classes at −∞. -/
def masked (h : Fin 32) (r j : Fin 1024) : EReal := if classOf j = classOf r then score x wq k h r j else ⊥
/-- Attention within the row's class. -/
def context (r : Fin 1024) (c : Fin 4096) : EReal :=
  attend (fun j => score x wq k (hd c) r (row (classOf r) j)) fun j => v (row (classOf r) j) c
/-- The result. -/
def out (r o : Fin 1024) : EReal := ∑ c, context x wq k v r c * wo c o

/-- The entries the scores are made of are finite. -/
structure Fin3 : Prop where
  x : ∀ r t, IsFin (x r t)
  wq : ∀ t c, IsFin (wq t c)
  k : ∀ j c, IsFin (k j c)

variable {x wq k v}

theorem query_fin (hf : Fin3 x wq k) (r : Fin 1024) (c : Fin 4096) : IsFin (query x wq r c) :=
  IsFin.sum fun t => (hf.x r t).mul (hf.wq t c)

theorem score_fin (hf : Fin3 x wq k) (h : Fin 32) (r j : Fin 1024) : IsFin (score x wq k h r j) :=
  (IsFin.sum fun e => (query_fin hf r (col h e)).mul (hf.k j (col h e))).mul scale_fin

/-- The scale may be on the queries or on the scores. -/
theorem scaled_query (hf : Fin3 x wq k) (h : Fin 32) (r j : Fin 1024) :
    ∑ e, query x wq r (col h e) * scale * k j (col h e) = score x wq k h r j := by
  unfold score
  rw [sum_mul_fin (fun e => (query_fin hf r (col h e)).mul (hf.k j (col h e))) scale_fin]
  exact Finset.sum_congr rfl fun e _ => mul_right_comm _ _ _

/-- Attention over all rows under the mask is attention within the class. -/
theorem masked_context (hf : Fin3 x wq k) (r : Fin 1024) (c : Fin 4096) :
    attend (masked x wq k (hd c) r) (fun j => v j c) = context x wq k v r c := by
  have e : masked x wq k (hd c) r ∘ row (classOf r) = fun j => score x wq k (hd c) r (row (classOf r) j) := funext fun j => by
    show (if classOf (row (classOf r) j) = classOf r then _ else ⊥) = _
    rw [if_pos (classOf_row _ _)]
  rw [attend_masked (row_inj (classOf r)) (s := masked x wq k (hd c) r) (fun j hj => if_neg fun h => hj (place j) (by rw [← h]; exact row_place j)) _
    (by rw [e]; exact total_ne_zero fun j => score_fin hf _ _ _), e]
  rfl

end Cert.Spec

end
-- ==== Proof.KernelValue.lean ====
/- The kernel's result over the extended reals: the sum over the devices of their shares of each row's class. -/
module

public import proofs.«01_k».proof.Proof.Spec
public import proofs.«01_k».proof.Proof.Protocol

@[expose] public section

noncomputable section

namespace Cert.Ring

open Cert.KernelIdeal Cert.KernelIdeal.Gen Cert.KernelIdeal.Facts Cert.Soft Cert.Spec
open Idealize.ShloMosaic Idealize.ShloMosaic.ValueIdx Idealize.ShloMosaic.TcCoe
open scoped BigOperators

/-! ## The rings add up every device's share -/

section
variable (part : Dev nD → Fin 4 → FVec Ideal S256x1024 .f32)

theorem msgA_three (d : Dev nD) (i : S128x1024.Idx) : msgA part 3 d i
    = half 0 (part (prv (prv (prv d))) (cls (prv (prv (prv d))) 0)) i + half 0 (part (prv (prv d)) (cls (prv (prv d)) 3)) i
      + half 0 (part (prv d) (cls (prv d) 2)) i + half 0 (part d (cls d 1)) i := rfl

theorem msgB_three (d : Dev nD) (i : S128x1024.Idx) : msgB part 3 d i
    = half 1 (part (nxt (nxt (nxt d))) (cls (nxt (nxt (nxt d))) 0)) i + half 1 (part (nxt (nxt d)) (cls (nxt (nxt d)) 1)) i
      + half 1 (part (nxt d) (cls (nxt d) 2)) i + half 1 (part d (cls d 3)) i := rfl

/-- A finished chunk is the sum over the devices. -/
theorem chunk_apply (u : Fin 2) (c : Fin 4) (i : S128x1024.Idx) : chunk part u c i = ∑ d : Fin 4, half u (part d c) i := by
  rw [Fin.sum_univ_four]
  match u with
  | 0 =>
    refine (msgA_three part (prv c) i).trans ?_
    match c with
    | 0 => show half 0 (part 0 0) i + half 0 (part 1 0) i + half 0 (part 2 0) i + half 0 (part 3 0) i = _; ac_rfl
    | 1 => show half 0 (part 1 1) i + half 0 (part 2 1) i + half 0 (part 3 1) i + half 0 (part 0 1) i = _; ac_rfl
    | 2 => show half 0 (part 2 2) i + half 0 (part 3 2) i + half 0 (part 0 2) i + half 0 (part 1 2) i = _; ac_rfl
    | 3 => show half 0 (part 3 3) i + half 0 (part 0 3) i + half 0 (part 1 3) i + half 0 (part 2 3) i = _; ac_rfl
  | 1 =>
    refine (msgB_three part (nxt c) i).trans ?_
    match c with
    | 0 => show half 1 (part 0 0) i + half 1 (part 3 0) i + half 1 (part 2 0) i + half 1 (part 1 0) i = _; ac_rfl
    | 1 => show half 1 (part 1 1) i + half 1 (part 0 1) i + half 1 (part 3 1) i + half 1 (part 2 1) i = _; ac_rfl
    | 2 => show half 1 (part 2 2) i + half 1 (part 1 2) i + half 1 (part 0 2) i + half 1 (part 3 2) i = _; ac_rfl
    | 3 => show half 1 (part 3 3) i + half 1 (part 2 3) i + half 1 (part 1 3) i + half 1 (part 0 3) i = _; ac_rfl

/-- The result at row `r`: the sum over the devices, at the row's place in its class. -/
theorem outAll_apply (r o : Fin 1024) : outAll part (ix2 r o) = ∑ d : Fin 4, part d (classOf r) (ix2 (place r) o) := by
  have hr := r.isLt
  unfold outAll blk
  refine (extractStridedSlice_apply _ _ _ _ (ix2 (⟨64 * (r.val / 64 / 4 % 2) + r.val % 64, by omega⟩ : Fin 128) o) ?_).trans ?_
  · intro a
    match a with
    | ⟨0, _⟩ => rfl
    | ⟨1, _⟩ => exact (Nat.zero_add _).symm
  refine (chunk_apply part _ _ _).trans (Finset.sum_congr rfl fun d _ => congrArg (part d (classOf r)) (ext2 ?_ rfl))
  show 128 * (r.val / 64 / 8) + (64 * (r.val / 64 / 4 % 2) + r.val % 64) = 64 * (r.val / 64 / 4) + r.val % 64
  omega

end

/-! ## One device's share -/

/-- Column `t` of device `d`'s part of the columns. -/
def loc (d : Fin 4) (t : Fin 1024) : Fin 4096 := ⟨1024 * d.val + t.val, by have := d.isLt; have := t.isLt; omega⟩

section
variable {xl kl vl wql wol : FVec Ideal S1024x1024 .f32} {x : Mat 1024 1024} {wq k v : Mat 1024 4096} {wo : Mat 4096 1024} {d : Fin 4}

theorem ctx_apply (hf : Fin3 x wq k) (hx : ∀ r t, xl (ix2 r t) = x r t) (hk : ∀ r t, kl (ix2 r t) = k r (loc d t))
    (hv : ∀ r t, vl (ix2 r t) = v r (loc d t)) (hq : ∀ r t, wql (ix2 r t) = wq r (loc d t)) (c : Fin 4) (p : Fin 256) (t : Fin 1024) :
    ctxC (permF xl) (permF kl) (permF vl) wql c (ix2 p t)
      = attend (fun j => score x wq k (hd (loc d t)) (row c p) (row c j)) fun j => v (row c j) (loc d t) := by
  have hc := c.isLt
  have hd4 := d.isLt
  have ht := t.isLt
  refine (headOf_apply _ _ _ p (⟨t.val % 128, Nat.mod_lt _ (by decide)⟩ : Fin 128)).trans ?_
  refine congrArg₂ attend (funext fun j => ?_) (funext fun j => ?_)
  · rw [← scaled_query hf]
    refine Finset.sum_congr rfl fun e => fun _ => ?_
    have he := e.isLt
    have ec : loc d (⟨128 * (t.val / 128) + e.val, by omega⟩ : Fin 1024) = col (hd (loc d t)) e := Fin.ext (by
      show 1024 * d.val + (128 * (t.val / 128) + e.val) = 128 * ((1024 * d.val + t.val) / 128) + e.val
      omega)
    refine congrArg₂ (· * ·) ?_ ?_
    · refine (slice2_axis1_apply _ _ _ p e (⟨128 * (t.val / 128) + e.val, by omega⟩ : Fin 1024) rfl).trans ?_
      refine (qOf_apply _ _ _ _).trans (congrArg (· * scale) (Finset.sum_congr rfl fun i _ => congrArg₂ (· * ·) ?_ ?_))
      · refine (win_apply _ 256 1024 (256 * c.val) 0 (row_in c) (ix2 p i) (by have := p.isLt; show 256 * c.val + p.val < 1024; omega) (by have := i.isLt; show 0 + i.val < 1024; omega)).trans ?_
        rw [← hx]
        exact congrArg xl (ext2 rfl (Nat.zero_add _))
      · rw [hq, ec]
    · refine (win_apply _ 256 128 (256 * c.val) (128 * (t.val / 128)) (head_in c ⟨t.val / 128, by omega⟩) (ix2 j e) (by have := j.isLt; show 256 * c.val + j.val < 1024; omega)
        (by show 128 * (t.val / 128) + e.val < 1024; omega)).trans ?_
      rw [← ec, ← hk]
      exact congrArg kl (ext2 rfl rfl)
  · refine (win_apply _ 256 128 (256 * c.val) (128 * (t.val / 128)) (head_in c ⟨t.val / 128, by omega⟩) (ix2 j (⟨t.val % 128, Nat.mod_lt _ (by decide)⟩ : Fin 128))
      (by have := j.isLt; show 256 * c.val + j.val < 1024; omega) (by show 128 * (t.val / 128) + t.val % 128 < 1024; omega)).trans ?_
    rw [← hv]
    refine congrArg vl (ext2 rfl ?_)
    show 128 * (t.val / 128) + t.val % 128 = t.val
    omega

theorem partC_apply (hf : Fin3 x wq k) (hx : ∀ r t, xl (ix2 r t) = x r t) (hk : ∀ r t, kl (ix2 r t) = k r (loc d t))
    (hv : ∀ r t, vl (ix2 r t) = v r (loc d t)) (hq : ∀ r t, wql (ix2 r t) = wq r (loc d t)) (ho : ∀ t o, wol (ix2 t o) = wo (loc d t) o)
    (r : Fin 1024) (o : Fin 1024) :
    partC (permF xl) (permF kl) (permF vl) wql wol (classOf r) (ix2 (place r) o) = ∑ t : Fin 1024, context x wq k v r (loc d t) * wo (loc d t) o := by
  show FloatOps.matmul (DotDims.plain 256 1024 1024) none _ wol (constant (F := Ideal) S256x1024 .f32 0x00000000#32) (ix2 (place r) o) = _
  rw [Ideal.matmul_plain_apply, constant_apply, Ideal.ofBits_zero_f32, zero_add]
  refine Finset.sum_congr rfl fun t _ => congrArg₂ (· * ·) ?_ (ho t o)
  rw [ctx_apply hf hx hk hv hq, row_place]
  rfl

end

/-- A sum over the columns, device by device. -/
theorem sum_loc (f : Fin 4096 → EReal) : ∑ c, f c = ∑ d : Fin 4, ∑ t : Fin 1024, f (loc d t) := by
  rw [← Fintype.sum_prod_type', ← Equiv.sum_comp (finProdFinEquiv : Fin 4 × Fin 1024 ≃ Fin 4096)]
  exact Finset.sum_congr rfl fun p _ => congrArg f (Fin.ext (Nat.add_comm _ _))

end Cert.Ring

end
-- ==== Proof.KernelResult.lean ====
/- What the kernel leaves in its result, as the mathematics of the whole arguments. -/
module

public import proofs.«01_k».proof.Proof.KernelValue

@[expose] public section

noncomputable section

namespace Cert.Ring

open Cert.KernelIdeal Cert.KernelIdeal.Gen Cert.KernelIdeal.Facts Cert.Soft Cert.Spec
open Idealize.ShloMosaic Idealize.ShloMosaic.ValueIdx Idealize.ShloMosaic.TcCoe
open scoped BigOperators

variable (m : (ℓ : Loc nD τ sig) → Buf (Elt Ideal) ℓ)

/-! ## What each device starts from, read at an index -/

theorem xS_apply (d : Dev nD) (r t : Fin 1024) : xS m d (ix2 r t) = m ((d : Thread nD τ).loc main_arg0) (ix2 r t) :=
  congrArg (m ((d : Thread nD τ).loc main_arg0)) (ext2 (a := 1024) (b := 1024) (by show 0 + 1 * r.val = r.val; omega) (by show 0 + 1 * t.val = t.val; omega))
theorem kS_apply (d : Dev nD) (r t : Fin 1024) : kS m d (ix2 r t) = m ((d : Thread nD τ).loc main_arg2) (ix2 r t) :=
  congrArg (m ((d : Thread nD τ).loc main_arg2)) (ext2 (a := 1024) (b := 1024) (by show 0 + 1 * r.val = r.val; omega) (by show 0 + 1 * t.val = t.val; omega))
theorem vS_apply (d : Dev nD) (r t : Fin 1024) : vS m d (ix2 r t) = m ((d : Thread nD τ).loc main_arg3) (ix2 r t) :=
  congrArg (m ((d : Thread nD τ).loc main_arg3)) (ext2 (a := 1024) (b := 1024) (by show 0 + 1 * r.val = r.val; omega) (by show 0 + 1 * t.val = t.val; omega))
theorem wqS_apply (d : Dev nD) (r t : Fin 1024) : wqS' m d (ix2 r t) = m ((d : Thread nD τ).loc main_arg1) (ix2 r (Cert.Ring.loc d t)) :=
  congrArg (m ((d : Thread nD τ).loc main_arg1)) (ext2 (a := 1024) (b := 4096) (by show 0 + 1 * r.val = r.val; omega)
    (by show 1024 * d.val + 1 * t.val = 1024 * d.val + t.val; omega))
theorem woS_apply (d : Dev nD) (t o : Fin 1024) : woS' m d (ix2 t o) = m ((d : Thread nD τ).loc main_arg4) (ix2 (Cert.Ring.loc d t) o) :=
  congrArg (m ((d : Thread nD τ).loc main_arg4)) (ext2 (a := 4096) (b := 1024) (by show 1024 * d.val + 1 * t.val = 1024 * d.val + t.val; omega)
    (by show 0 + 1 * o.val = o.val; omega))

variable {m} {x : Mat 1024 1024} {wq k v : Mat 1024 4096} {wo : Mat 4096 1024}

/-- The result at an index, where the devices hold their parts of the arguments. -/
theorem result_apply (hf : Fin3 x wq k)
    (hx : ∀ (d : Dev nD) (r t : Fin 1024), m ((d : Thread nD τ).loc main_arg0) (ix2 r t) = x r t)
    (hq : ∀ (d : Dev nD) (r : Fin 1024) (c : Fin 4096), m ((d : Thread nD τ).loc main_arg1) (ix2 r c) = wq r c)
    (hk : ∀ (d : Dev nD) (r t : Fin 1024), m ((d : Thread nD τ).loc main_arg2) (ix2 r t) = k r (Cert.Ring.loc d t))
    (hv : ∀ (d : Dev nD) (r t : Fin 1024), m ((d : Thread nD τ).loc main_arg3) (ix2 r t) = v r (Cert.Ring.loc d t))
    (ho : ∀ (d : Dev nD) (c : Fin 4096) (o : Fin 1024), m ((d : Thread nD τ).loc main_arg4) (ix2 c o) = wo c o) (r o : Fin 1024) :
    outAll (part m) (ix2 r o) = out x wq k v wo r o := by
  rw [outAll_apply]
  unfold out
  rw [sum_loc]
  exact Finset.sum_congr rfl fun d _ => partC_apply hf (fun r t => (xS_apply m d r t).trans (hx d r t)) (fun r t => (kS_apply m d r t).trans (hk d r t))
    (fun r t => (vS_apply m d r t).trans (hv d r t)) (fun r t => (wqS_apply m d r t).trans (hq d r _)) (fun t o => (woS_apply m d t o).trans (ho d _ o)) r o

end Cert.Ring

end
-- ==== Proof.RefMask.lean ====
/- The reference's mask: it keeps the pairs of rows of one class, and it keeps some pair of every row. -/
module

public import proofs.«01_k».proof.Proof.Spec
public import proofs.«01_k».proof.Proof.Gen.ReferenceIdeal.Read
public import Idealize.ShloMosaic.Lib.Routing.Words
public import Idealize.ShloMosaic.Lib.ValueIdx
public import Idealize.ShloMosaic.PureOps.Reduce

@[expose] public section

noncomputable section

namespace Cert.Whole

open Cert.ReferenceIdeal Cert.ReferenceIdeal.Gen Cert.Spec
open Idealize.ShloMosaic Idealize.ShloMosaic.ValueIdx
open scoped BigOperators

/-- The block each row is in. -/
def blockWord : IVec S1024 32 := Host.divsi (iotaInDim S1024 32 0) (broadcastInDim S1024 ![] bcast_S_S1024 (constantI S_ 32 64#32))
/-- The blocks down the rows, -/
def blockCol : IVec S1024x1 32 := broadcastInDim S1024x1 ![0] bcast_S1024_S1024x1_0 blockWord
/-- and along the columns. -/
def blockRow : IVec S1x1024 32 := broadcastInDim S1x1024 ![1] bcast_S1024_S1x1024_1 blockWord
/-- The class each block is in, down the rows -/
def classCol : IVec S1024x1 32 := Host.remsi blockCol (broadcastInDim S1024x1 ![] bcast_S_S1024x1 (constantI S_ 32 4#32))
/-- and along the columns. -/
def classRow : IVec S1x1024 32 := Host.remsi blockRow (broadcastInDim S1x1024 ![] bcast_S_S1x1024 (constantI S_ 32 4#32))
/-- The mask. -/
def keepWord : IVec S1024x1024 1 :=
  ori (cmpi .eq (broadcastInDim S1024x1024 ![0, 1] bcast_S1024x1_S1024x1024_0_1 blockCol) (broadcastInDim S1024x1024 ![0, 1] bcast_S1x1024_S1024x1024_0_1 blockRow))
    (cmpi .eq (broadcastInDim S1024x1024 ![0, 1] bcast_S1x1024_S1024x1024_0_1 classRow) (broadcastInDim S1024x1024 ![0, 1] bcast_S1024x1_S1024x1024_0_1 classCol))

theorem blockWord_apply (r : Fin 1024) : blockWord (ix1 r) = BitVec.ofNat 32 (r.val / 64) :=
  Routing.divsi_word .host (a := r.val) (b := 64) (by have := r.isLt; omega) (by decide) (by decide)

theorem blockCol_apply (r : Fin 1024) (z : Fin 1) : blockCol (ix2 r z) = BitVec.ofNat 32 (r.val / 64) :=
  (broadcastInDim_apply ![0] bcast_S1024_S1024x1_0 blockWord (ix2 r z) (ix1 r) (fun a => match a with
    | ⟨0, _⟩ => by show r.val = if (1024 : Nat) = 1 then 0 else r.val; rw [if_neg (by decide)])).trans (blockWord_apply r)
theorem blockRow_apply (z : Fin 1) (r : Fin 1024) : blockRow (ix2 z r) = BitVec.ofNat 32 (r.val / 64) :=
  (broadcastInDim_apply ![1] bcast_S1024_S1x1024_1 blockWord (ix2 z r) (ix1 r) (fun a => match a with
    | ⟨0, _⟩ => by show r.val = if (1024 : Nat) = 1 then 0 else r.val; rw [if_neg (by decide)])).trans (blockWord_apply r)

theorem classCol_apply (r : Fin 1024) (z : Fin 1) : classCol (ix2 r z) = BitVec.ofNat 32 (r.val / 64 % 4) := by
  show IntOp.remsi .host (blockCol (ix2 r z)) (BitVec.ofNat 32 4) = _
  rw [blockCol_apply]
  exact Routing.remsi_word .host (by have := r.isLt; omega) (by decide) (by decide)
theorem classRow_apply (z : Fin 1) (r : Fin 1024) : classRow (ix2 z r) = BitVec.ofNat 32 (r.val / 64 % 4) := by
  show IntOp.remsi .host (blockRow (ix2 z r)) (BitVec.ofNat 32 4) = _
  rw [blockRow_apply]
  exact Routing.remsi_word .host (by have := r.isLt; omega) (by decide) (by decide)

/-- A column laid across the rectangle. -/
theorem across_apply (x : IVec S1024x1 32) (r j : Fin 1024) :
    broadcastInDim S1024x1024 ![0, 1] bcast_S1024x1_S1024x1024_0_1 x (ix2 r j) = x (ix2 r (0 : Fin 1)) :=
  broadcastInDim_apply ![0, 1] bcast_S1024x1_S1024x1024_0_1 x (ix2 r j) (ix2 r (0 : Fin 1)) (fun a => match a with
    | ⟨0, _⟩ => by show r.val = if (1024 : Nat) = 1 then 0 else r.val; rw [if_neg (by decide)]
    | ⟨1, _⟩ => by show 0 = if (1 : Nat) = 1 then 0 else j.val; rw [if_pos rfl])
/-- A row laid down the rectangle. -/
theorem down_apply (x : IVec S1x1024 32) (r j : Fin 1024) :
    broadcastInDim S1024x1024 ![0, 1] bcast_S1x1024_S1024x1024_0_1 x (ix2 r j) = x (ix2 (0 : Fin 1) j) :=
  broadcastInDim_apply ![0, 1] bcast_S1x1024_S1024x1024_0_1 x (ix2 r j) (ix2 (0 : Fin 1) j) (fun a => match a with
    | ⟨0, _⟩ => by show 0 = if (1 : Nat) = 1 then 0 else r.val; rw [if_pos rfl]
    | ⟨1, _⟩ => by show j.val = if (1024 : Nat) = 1 then 0 else j.val; rw [if_neg (by decide)])

/-- Two small words are compared as numbers. -/
theorem eq_word (a b : Nat) (ha : a < 16) (hb : b < 16) :
    IntOp.cmpi .eq (BitVec.ofNat 32 a) (BitVec.ofNat 32 b) = if a = b then 1#1 else 0#1 := by
  by_cases h : a = b
  · rw [if_pos h, h]; simp [IntOp.cmpi]
  · rw [if_neg h]
    have hn : BitVec.ofNat 32 a ≠ BitVec.ofNat 32 b := fun e => h (by
      have := congrArg BitVec.toNat e
      rwa [BitVec.toNat_ofNat, BitVec.toNat_ofNat, Nat.mod_eq_of_lt (by omega), Nat.mod_eq_of_lt (by omega)] at this)
    show BitVec.ofBool (BitVec.ofNat 32 a == BitVec.ofNat 32 b) = 0#1
    rw [beq_eq_false_iff_ne.mpr hn]
    rfl

theorem keepWord_apply (r j : Fin 1024) : keepWord (ix2 r j) = if classOf j = classOf r then 1#1 else 0#1 := by
  have e : (classOf j = classOf r) ↔ j.val / 64 % 4 = r.val / 64 % 4 := Fin.ext_iff
  show IntOp.ori (IntOp.cmpi .eq (broadcastInDim S1024x1024 ![0, 1] bcast_S1024x1_S1024x1024_0_1 blockCol (ix2 r j))
      (broadcastInDim S1024x1024 ![0, 1] bcast_S1x1024_S1024x1024_0_1 blockRow (ix2 r j)))
    (IntOp.cmpi .eq (broadcastInDim S1024x1024 ![0, 1] bcast_S1x1024_S1024x1024_0_1 classRow (ix2 r j))
      (broadcastInDim S1024x1024 ![0, 1] bcast_S1024x1_S1024x1024_0_1 classCol (ix2 r j))) = _
  have hr := r.isLt
  have hj := j.isLt
  rw [across_apply, down_apply, across_apply, down_apply, blockCol_apply, blockRow_apply, classRow_apply, classCol_apply,
    eq_word _ _ (by omega) (by omega), eq_word _ _ (by omega) (by omega)]
  by_cases h : j.val / 64 % 4 = r.val / 64 % 4
  · rw [if_pos (e.mpr h), if_pos h]
    split <;> rfl
  · rw [if_neg (fun h' => h (e.mp h')), if_neg h, if_neg (fun h' => h (by rw [h']))]
    rfl

theorem reduces_row : S1024x1024.Reduces [1] S1024 := by decide

/-- Or over a family of bits, one of which is set. -/
theorem fold_or (f : Fin 1024 → BitVec 1) (b : BitVec 1) (r : Fin 1024) (h : f r = 1#1) :
    (Finset.univ : Finset (Fin 1024)).fold IntOp.ori b f = 1#1 := by
  rw [← Finset.insert_erase (Finset.mem_univ r), Finset.fold_insert (op := IntOp.ori) (Finset.notMem_erase _ _), h]
  exact (by decide : ∀ z : BitVec 1, IntOp.ori 1#1 z = 1#1) _

set_option maxRecDepth 65536 in
/-- Each row keeps some pair: its own. -/
theorem keepRow_apply (r : Fin 1024) : Read.val_main_v36 (F := Ideal) keepWord (ix1 r) = 1#1 := by
  unfold Read.val_main_v36
  refine (Host.reduce_eq_fold_single IntOp.ori keepWord _ reducesTo_S1024x1024_S1024_d1 reduces_row h_S_ (ix1 r)).trans ?_
  have e : reduces_row.lift (ix1 r) r = ix2 r r := funext fun a => Fin.ext (by match a with | ⟨0, _⟩ => rfl | ⟨1, _⟩ => rfl)
  exact fold_or _ _ r ((congrArg keepWord e).trans ((keepWord_apply r r).trans (if_pos rfl)))

end Cert.Whole

end
-- ==== Proof.RefTail.lean ====
/- What the reference makes of the masked scores: a softmax along each row, the weighted values, and the output product. -/
module

public import proofs.«01_k».proof.Proof.RefMask
public import Idealize.ShloMosaic.PureOps.Ideal.Laws

@[expose] public section

noncomputable section

namespace Cert.Whole

open Cert.ReferenceIdeal Cert.ReferenceIdeal.Gen Cert.ReferenceIdeal.Read Cert.Spec Cert.Soft
open Idealize.ShloMosaic Idealize.ShloMosaic.ValueIdx
open scoped BigOperators

variable (p : FVec Ideal S32x1024x1024 .f32)

/-- A row of the masked scores. -/
def scoreRow (h : Fin 32) (r : Fin 1024) : Fin 1024 → EReal := fun j => p (ix3 h r j)

theorem scores_apply (z : Fin 1) (h : Fin 32) (r j : Fin 1024) : val_main_v30 (F := Ideal) p (ix4 z h r j) = scoreRow p h r j := by
  have e : idx_main_v30 (ix4 z h r j) = ix3 h r j := funext fun a => match a with | ⟨0, _⟩ => rfl | ⟨1, _⟩ => rfl | ⟨2, _⟩ => rfl
  rw [val_main_v30_apply, e]
  rfl

theorem reduces_scores : S1x32x1024x1024.Reduces [3] S1x32x1024 := by decide

theorem lift_scores (z : Fin 1) (h : Fin 32) (r j : Fin 1024) : reduces_scores.lift (ix3 z h r) j = ix4 z h r j :=
  funext fun a => Fin.ext (by match a with | ⟨0, _⟩ => rfl | ⟨1, _⟩ => rfl | ⟨2, _⟩ => rfl | ⟨3, _⟩ => rfl)

theorem fold_congr (f g : Fin 1024 → EReal) (b c : EReal) (hf : ∀ j, f j = g j) (hb : b = c) :
    (Finset.univ : Finset (Fin 1024)).fold max b f = (Finset.univ : Finset (Fin 1024)).fold max c g := by
  rw [funext hf, hb]

/-- A maximum along the last axis, from a first value. -/
theorem max_apply (y : FVec Ideal S1x32x1024x1024 .f32) (b : FVec Ideal S_ .f32) (z : Fin 1) (h : Fin 32) (r : Fin 1024) :
    Host.reduce FloatOps.maximumf y b reducesTo_S1x32x1024x1024_S1x32x1024_d3 h_S_ (ix3 z h r)
      = (Finset.univ : Finset (Fin 1024)).fold max (b (Shape.Idx.first h_S_)) (fun j => y (ix4 z h r j)) := by
  refine (Host.reduce_eq_fold_single FloatOps.maximumf y b reducesTo_S1x32x1024x1024_S1x32x1024_d3 reduces_scores h_S_ (ix3 z h r)).trans ?_
  exact fold_congr _ _ _ _ (fun j => congrArg y (lift_scores z h r j)) rfl

theorem top_apply (z : Fin 1) (h : Fin 32) (r : Fin 1024) : val_main_v31 (F := Ideal) p (ix3 z h r) = top (scoreRow p h r) := by
  unfold val_main_v31
  rw [max_apply]
  exact fold_congr _ _ _ _ (fun j => scores_apply p z h r j) Cert.Ring.negInf_bits

theorem term_apply (z : Fin 1) (h : Fin 32) (r j : Fin 1024) : val_main_v35 (F := Ideal) p (ix4 z h r j) = term (scoreRow p h r) j := by
  have e : val_main_v33 (F := Ideal) p (ix4 z h r j) = top (scoreRow p h r) := by
    have i : idx_main_v32 (idx_main_v33 (ix4 z h r j)) = ix3 (0 : Fin 1) h r := funext fun a => match a with | ⟨0, _⟩ => rfl | ⟨1, _⟩ => rfl | ⟨2, _⟩ => rfl
    rw [val_main_v33_apply, val_main_v32_apply, i]
    exact top_apply p 0 h r
  rw [val_main_v35_apply, val_main_v34_apply, scores_apply, e]
  rfl

theorem total_apply (z : Fin 1) (h : Fin 32) (r : Fin 1024) : val_main_v38 (F := Ideal) p (ix3 z h r) = total (scoreRow p h r) := by
  rw [val_main_v38_apply, val_main_cst_5_apply]
  refine (congrArg (· + _) Ideal.ofBits_zero_f32).trans ((zero_add _).trans ?_)
  refine Finset.sum_congr rfl fun j _ => ?_
  have i : idx_main_v38 (ix3 z h r) j = ix4 z h r j := funext fun a => match a with | ⟨0, _⟩ => rfl | ⟨1, _⟩ => rfl | ⟨2, _⟩ => rfl | ⟨3, _⟩ => rfl
  rw [i]
  exact term_apply p z h r j

theorem weight_apply (z : Fin 1) (h : Fin 32) (r j : Fin 1024) :
    val_main_v44 (F := Ideal) p keepWord (ix4 z h r j) = Ideal.div (term (scoreRow p h r) j) (total (scoreRow p h r)) := by
  have e1 : val_main_call1_v1 (F := Ideal) keepWord (ix4 z h r j) = 1#1 := by
    have i : idx_main_v43 (idx_main_call1_v1 (ix4 z h r j)) = ix1 r := funext fun a => match a with | ⟨0, _⟩ => rfl
    rw [val_main_call1_v1_apply, val_main_v43_apply, i]
    exact keepRow_apply r
  have e2 : val_main_v41 (F := Ideal) p keepWord (ix4 z h r j) = total (scoreRow p h r) := by
    rw [val_main_v41_apply, val_main_v40_apply]
    have e3 : val_main_call0_v1 (F := Ideal) keepWord (idx_main_v41 (ix4 z h r j)) = 1#1 := by
      have i : idx_main_v37 (idx_main_call0_v1 (idx_main_v41 (ix4 z h r j))) = ix1 r := funext fun a => match a with | ⟨0, _⟩ => rfl
      rw [val_main_call0_v1_apply, val_main_v37_apply, i]
      exact keepRow_apply r
    have i : idx_main_v39 (idx_main_v41 (ix4 z h r j)) = ix3 (0 : Fin 1) h r := funext fun a => match a with | ⟨0, _⟩ => rfl | ⟨1, _⟩ => rfl | ⟨2, _⟩ => rfl
    rw [e3, val_main_v39_apply, i]
    exact (if_pos rfl).trans (total_apply p 0 h r)
  rw [val_main_v44_apply, e1, val_main_v42_apply, e2, term_apply]
  exact if_pos rfl

variable (v : FVec Ideal S1x1024x32x128 .f32) (wo : FVec Ideal S4096x1024 .f32)

/-- The values, their columns not split into heads. -/
def valueAt (j : Fin 1024) (c : Fin 4096) : EReal := v (ix4 (0 : Fin 1) j (hd c) ⟨c.val % 128, Nat.mod_lt _ (by decide)⟩)

theorem context_apply (r : Fin 1024) (c : Fin 4096) :
    val_main_v47 (F := Ideal) p keepWord v (ix2 r c) = attend (scoreRow p (hd c) r) (fun j => valueAt v j c) := by
  have hr := r.isLt
  have hc := c.isLt
  have e : idx_main_v46 (idx_main_v47 (ix2 r c)) = ix4 (0 : Fin 1) (hd c) (⟨c.val % 128, Nat.mod_lt _ (by decide)⟩ : Fin 128) r :=
    funext fun a => Fin.ext (match a with
      | ⟨0, _⟩ => rfl
      | ⟨1, _⟩ => (by omega : (r.val * 4096 + c.val) / 128 % 32 = c.val / 128)
      | ⟨2, _⟩ => (by omega : (r.val * 4096 + c.val) % 128 = c.val % 128)
      | ⟨3, _⟩ => (by omega : (r.val * 4096 + c.val) / 4096 % 1024 = r.val))
  rw [val_main_v47_apply, val_main_v46_apply, e, val_main_v45_apply]
  refine Finset.sum_congr rfl fun j _ => ?_
  refine (mul_comm _ _).trans (congrArg₂ (· * ·) ?_ ?_)
  · refine (congrArg _ ?_).trans (weight_apply p 0 (hd c) r j)
    exact funext fun a => match a with | ⟨0, _⟩ => rfl | ⟨1, _⟩ => rfl | ⟨2, _⟩ => rfl | ⟨3, _⟩ => rfl
  · exact congrArg v (funext fun a => match a with | ⟨0, _⟩ => rfl | ⟨1, _⟩ => rfl | ⟨2, _⟩ => rfl | ⟨3, _⟩ => rfl)

theorem product_apply (r o : Fin 1024) :
    val_main_v48 (F := Ideal) wo p keepWord v (ix2 r o)
      = ∑ c, attend (scoreRow p (hd c) r) (fun j => valueAt v j c) * wo (ix2 c o) := by
  rw [val_main_v48_apply]
  refine Finset.sum_congr rfl fun c _ => congrArg₂ (· * ·) ?_ ?_
  · refine (congrArg _ ?_).trans (context_apply p v r c)
    exact funext fun a => match a with | ⟨0, _⟩ => rfl | ⟨1, _⟩ => rfl
  · exact congrArg wo (funext fun a => match a with | ⟨0, _⟩ => rfl | ⟨1, _⟩ => rfl)

end Cert.Whole

end
-- ==== Proof.RefRegion.lean ====
/- The reference's masked scores: what its masking step is given, and what it leaves. -/
module

public import proofs.«01_k».proof.Proof.RefTail
public import Idealize.ShloMosaic.Lib.Pipeline.Value
public import Idealize.ShloMosaic.Lib.StableHlo.Run

@[expose] public section

noncomputable section

namespace Cert.Whole

open Cert.ReferenceIdeal Cert.ReferenceIdeal.Gen Cert.Spec
open Idealize.ShloMosaic Idealize.ShloMosaic.TcCoe Idealize.ShloMosaic.ValueIdx Idealize.ShloMosaic.StableHlo
open scoped BigOperators

/-! ## A product's operands at an index

An axis that is not summed over is read at the result's axis in its place: batch axes first, then the left operand's, then the right operand's. -/

section Axes

variable {sl sr so : Shape} (D : DotDims sl sr so) (i : so.Idx) (q : D.contr.Idx)

theorem left_batch {a : Fin sl.rank} (b : Fin so.rank) (h : a ∈ D.lhsBatch) (e : b.val = D.lhsBatch.idxOf a) :
    (D.lhsIdx i q a).val = (i b).val := by
  obtain ⟨_, _⟩ := b
  subst e
  unfold DotDims.lhsIdx
  rw [dif_pos h]
  rfl

theorem left_free {a : Fin sl.rank} (b : Fin so.rank) (h : a ∉ D.lhsBatch) (h' : a ∈ D.lhsNonContracting)
    (e : b.val = D.lhsBatch.length + D.lhsNonContracting.idxOf a) : (D.lhsIdx i q a).val = (i b).val := by
  obtain ⟨_, _⟩ := b
  subst e
  unfold DotDims.lhsIdx
  rw [dif_neg h, dif_pos h']
  rfl

theorem right_batch {a : Fin sr.rank} (b : Fin so.rank) (h : a ∈ D.rhsBatch) (e : b.val = D.rhsBatch.idxOf a) :
    (D.rhsIdx i q a).val = (i b).val := by
  obtain ⟨_, _⟩ := b
  subst e
  unfold DotDims.rhsIdx
  rw [dif_pos h]
  rfl

theorem right_free {a : Fin sr.rank} (b : Fin so.rank) (h : a ∉ D.rhsBatch) (h' : a ∈ D.rhsNonContracting)
    (e : b.val = D.lhsBatch.length + D.lhsNonContracting.length + D.rhsNonContracting.idxOf a) : (D.rhsIdx i q a).val = (i b).val := by
  obtain ⟨_, _⟩ := b
  subst e
  unfold DotDims.rhsIdx
  rw [dif_neg h, dif_pos h']
  rfl

end Axes

/-! ## The scores -/

/-- The columns split into heads. -/
def heads (y : FVec Ideal S1024x4096 .f32) : FVec Ideal S1x1024x32x128 .f32 := shapeCast _ y shapeCasts_S1024x4096_S1x1024x32x128

theorem heads_apply (y : FVec Ideal S1024x4096 .f32) (z : Fin 1) (j : Fin 1024) (h : Fin 32) (e : Fin 128) :
    heads y (ix4 z j h e) = y (ix2 j (col h e)) :=
  shapeCast_apply y shapeCasts_S1024x4096_S1x1024x32x128 (ix4 z j h e) (ix2 j (col h e)) (by
    have hz := z.isLt
    rewrite [Shape.rowMajor_val_two, Shape.rowMajor_val_four]
    show j.val * 4096 + (128 * h.val + e.val) = ((z.val * 1024 + j.val) * 32 + h.val) * 128 + e.val
    omega)

/-- The queries' product. -/
def queries (x : FVec Ideal S1024x1024 .f32) (wq : FVec Ideal S1024x4096 .f32) : FVec Ideal S1024x4096 .f32 :=
  Host.dotGeneral dot_S1024x1024_S1024x4096_S1024x4096_1_0_0_1_n_n none x wq

/-- Its axes. -/
abbrev dq := dot_S1024x1024_S1024x4096_S1024x4096_1_0_0_1_n_n

theorem queries_apply (x : FVec Ideal S1024x1024 .f32) (wq : FVec Ideal S1024x4096 .f32) (r : Fin 1024) (c : Fin 4096) :
    queries x wq (ix2 r c) = ∑ t : Fin 1024, x (ix2 r t) * wq (ix2 t c) := by
  unfold queries
  simp only [Host.dotGeneral]
  rw [Ideal.dotGeneral_apply, ← Equiv.sum_comp (contrEquiv1 dq 1024 rfl rfl).symm]
  refine Finset.sum_congr rfl fun t _ => ?_
  have ht := contrEquiv1_symm_val dq 1024 rfl rfl t
  generalize (contrEquiv1 dq 1024 rfl rfl).symm t = q at ht
  have el : dq.lhsIdx (ix2 r c) q = ix2 r t := funext fun a => Fin.ext (match a with
    | ⟨0, _⟩ => left_free dq (ix2 r c) q (a := 0) 0 (by decide) (by decide) rfl
    | ⟨1, _⟩ => (dq.lhsIdx_val_of_single rfl (ix2 r c) q).trans ht)
  have er : dq.rhsIdx (ix2 r c) q = ix2 t c := funext fun a => Fin.ext (match a with
    | ⟨0, _⟩ => (dq.rhsIdx_val_of_single rfl (ix2 r c) q).trans ht
    | ⟨1, _⟩ => right_free dq (ix2 r c) q (a := 1) 1 (by decide) (by decide) rfl)
  rw [el, er]

/-- The heads' products of queries and keys. -/
def products (q k : FVec Ideal S1x1024x32x128 .f32) : FVec Ideal S1x32x1024x1024 .f32 :=
  Host.dotGeneral dot_S1x1024x32x128_S1x1024x32x128_S1x32x1024x1024_3_3_1_1_02_02 none q k

/-- Their axes. -/
abbrev ds := dot_S1x1024x32x128_S1x1024x32x128_S1x32x1024x1024_3_3_1_1_02_02

theorem products_apply (q k : FVec Ideal S1x1024x32x128 .f32) (z : Fin 1) (h : Fin 32) (r j : Fin 1024) :
    products q k (ix4 z h r j) = ∑ e : Fin 128, q (ix4 z r h e) * k (ix4 z j h e) := by
  unfold products
  simp only [Host.dotGeneral]
  rw [Ideal.dotGeneral_apply, ← Equiv.sum_comp (contrEquiv1 ds 128 rfl rfl).symm]
  refine Finset.sum_congr rfl fun e _ => ?_
  have he := contrEquiv1_symm_val ds 128 rfl rfl e
  generalize (contrEquiv1 ds 128 rfl rfl).symm e = w at he
  have el : ds.lhsIdx (ix4 z h r j) w = ix4 z r h e := funext fun a => Fin.ext (match a with
    | ⟨0, _⟩ => left_batch ds (ix4 z h r j) w (a := 0) 0 (by decide) rfl
    | ⟨1, _⟩ => left_free ds (ix4 z h r j) w (a := 1) 2 (by decide) (by decide) rfl
    | ⟨2, _⟩ => left_batch ds (ix4 z h r j) w (a := 2) 1 (by decide) rfl
    | ⟨3, _⟩ => (ds.lhsIdx_val_of_single rfl (ix4 z h r j) w).trans he)
  have er : ds.rhsIdx (ix4 z h r j) w = ix4 z j h e := funext fun a => Fin.ext (match a with
    | ⟨0, _⟩ => right_batch ds (ix4 z h r j) w (a := 0) 0 (by decide) rfl
    | ⟨1, _⟩ => right_free ds (ix4 z h r j) w (a := 1) 3 (by decide) (by decide) rfl
    | ⟨2, _⟩ => right_batch ds (ix4 z h r j) w (a := 2) 1 (by decide) rfl
    | ⟨3, _⟩ => (ds.rhsIdx_val_of_single rfl (ix4 z h r j) w).trans he)
  rw [el, er]

/-- The scores, as the masking step is given them. -/
def scores (x : FVec Ideal S1024x1024 .f32) (wq k : FVec Ideal S1024x4096 .f32) : FVec Ideal S32x1024x1024 .f32 :=
  shapeCast _ (mulf (products (heads (queries x wq)) (heads k))
    (broadcastInDim S1x32x1024x1024 ![] bcast_S_S1x32x1024x1024 (constant S_ .f32 0x3DB504F3#32))) shapeCasts_S1x32x1024x1024_S32x1024x1024

theorem scores_of (x : FVec Ideal S1024x1024 .f32) (wq k : FVec Ideal S1024x4096 .f32) (h : Fin 32) (r j : Fin 1024) :
    scores x wq k (ix3 h r j) = score (fun r t => x (ix2 r t)) (fun t c => wq (ix2 t c)) (fun j c => k (ix2 j c)) h r j := by
  unfold scores
  refine (shapeCast_apply _ shapeCasts_S1x32x1024x1024_S32x1024x1024 (ix3 h r j) (ix4 (0 : Fin 1) h r j) (by
    rewrite [Shape.rowMajor_val_three, Shape.rowMajor_val_four]
    show ((0 * 32 + h.val) * 1024 + r.val) * 1024 + j.val = (h.val * 1024 + r.val) * 1024 + j.val
    omega)).trans ?_
  show products (heads (queries x wq)) (heads k) (ix4 (0 : Fin 1) h r j) * Cert.Ring.scale = _
  rw [products_apply]
  refine congrArg (· * Cert.Ring.scale) (Finset.sum_congr rfl fun e _ => ?_)
  rw [heads_apply, heads_apply, queries_apply]
  rfl

/-- The mask, as the masking step is given it. -/
def keeps : IVec S32x1024x1024 32 :=
  broadcastInDim S32x1024x1024 ![1, 2] bcast_S1024x1024_S32x1024x1024_1_2 (extui 32 keepWord natLt_1_32)

theorem keeps_apply (h : Fin 32) (r j : Fin 1024) : keeps (ix3 h r j) = if classOf j = classOf r then 1#32 else 0#32 := by
  unfold keeps
  refine (broadcastInDim_apply ![1, 2] bcast_S1024x1024_S32x1024x1024_1_2 _ (ix3 h r j) (ix2 r j) (fun a => match a with
    | ⟨0, _⟩ => by show r.val = if (1024 : Nat) = 1 then 0 else r.val; rw [if_neg (by decide)]
    | ⟨1, _⟩ => by show j.val = if (1024 : Nat) = 1 then 0 else j.val; rw [if_neg (by decide)])).trans ?_
  show (keepWord (ix2 r j)).setWidth 32 = _
  rw [keepWord_apply]
  split <;> rfl

/-! ## The masking step -/

/-- What the masking step leaves. -/
def kept (n : IVec S32x1024x1024 32) (s : FVec Ideal S32x1024x1024 .f32) : FVec Ideal S32x1024x1024 .f32 := k0_pay1 (F := Ideal) n s

theorem kept_apply (x : FVec Ideal S1024x1024 .f32) (wq k : FVec Ideal S1024x4096 .f32) (h : Fin 32) (r j : Fin 1024) :
    kept keeps (scores x wq k) (ix3 h r j)
      = masked (fun r t => x (ix2 r t)) (fun t c => wq (ix2 t c)) (fun j c => k (ix2 j c)) h r j := by
  unfold kept k0_pay1 masked
  rw [shapeCast_self, shapeCast_self]
  show Scalar.select (IntOp.cmpi .ne (keeps (ix3 h r j)) 0#32) (scores x wq k (ix3 h r j)) (⊥ : EReal) = _
  rw [keeps_apply, scores_of]
  by_cases e : classOf j = classOf r
  · rw [if_pos e, if_pos e]
    exact if_pos rfl
  · rw [if_neg e, if_neg e]
    exact if_neg (by decide)

theorem zeros : (![0, 0, 0] : Fin 3 → Nat) = fun _ => 0 := by decide

/-- Its one store is of the whole result. -/
theorem stored (n : Vec Ideal S32x1024x1024 .i32) (s : Vec Ideal S32x1024x1024 .f32) : out0_2 (F := Ideal) n s = kept n s := by
  funext y
  unfold out0_2
  rw [View.ld_unit_zero zeros, View.ld_unit_zero zeros]
  refine View.canon_apply_of_pieces (Val := Elt Ideal) (kept n s) _ (fun p hp i => ?_) y (cover0_2 _ y)
  obtain rfl := List.mem_singleton.mp hp
  exact (congrFun (View.ld_unit_zero (Val := Elt Ideal) (S := S32x1024x1024) (e := .f32) zeros inb_S32x1024x1024_S32x1024x1024_0_0_0 (kept n s)) i).symm

variable (m : (ℓ : Loc nD τ sig) → Buf (Elt Ideal) ℓ)

set_option maxHeartbeats 2000000 in
/-- The step is given the mask -/
theorem given_keeps (c : Dev nD) : Gen.V0 m c (Proc.devRef .tc main_v27) = keeps := by
  simp only [Gen.V0, Gen.hostOps0, List.flatten_cons, List.flatten_nil, List.append_nil, List.cons_append, List.nil_append]
  after_results_simp <;> rfl

set_option maxHeartbeats 2000000 in
/-- and the scores. -/
theorem given_scores (c : Dev nD) : Gen.V0 m c (Proc.devRef .tc main_v28)
    = scores (m ((c.tc : Thread nD τ).loc main_arg0)) (m ((c.tc : Thread nD τ).loc main_arg1)) (m ((c.tc : Thread nD τ).loc main_arg2)) := by
  simp only [Gen.V0, Gen.hostOps0, List.flatten_cons, List.flatten_nil, List.append_nil, List.cons_append, List.nil_append]
  after_results_simp <;> rfl

/-- What the step leaves, of what it is given. -/
def left (c : Dev nD) : FVec Ideal S32x1024x1024 .f32 :=
  kept (Gen.V0 m c (Proc.devRef .tc main_v27)) (Gen.V0 m c (Proc.devRef .tc main_v28))

/-- A block of the step is the whole array: of the mask, -/
theorem block_keeps (A : IVec S32x1024x1024 32) (t : Fin cfg0.N) : (win0_0.blk t).view.read (Elt Ideal) A = A := by
  funext i
  refine congrArg A (funext fun a => Fin.ext ?_)
  have e : ∀ t a, win0_0.index t a * win0_0.size a = 0 := by decide +kernel
  show win0_0.index t a * win0_0.size a + 1 * (i a).val = _
  rw [e, Nat.zero_add, Nat.one_mul]

/-- of the scores, -/
theorem block_scores (A : FVec Ideal S32x1024x1024 .f32) (t : Fin cfg0.N) : (win0_1.blk t).view.read (Elt Ideal) A = A := by
  funext i
  refine congrArg A (funext fun a => Fin.ext ?_)
  have e : ∀ t a, win0_1.index t a * win0_1.size a = 0 := by decide +kernel
  show win0_1.index t a * win0_1.size a + 1 * (i a).val = _
  rw [e, Nat.zero_add, Nat.one_mul]

/-- and of what it leaves. -/
theorem block_left (A : FVec Ideal S32x1024x1024 .f32) (t : Fin cfg0.N) :
    (cfg0.win 2).cut (grid0.coords t) A = (win0_2.blk t).view.read (Elt Ideal) A := by
  funext i
  refine congrArg A (funext fun a => Fin.ext ?_)
  have e : ∀ t a, win0_2.index t a * win0_2.size a = 0 := by decide +kernel
  show (i a).val = win0_2.index t a * win0_2.size a + 1 * (i a).val
  rw [e, Nat.zero_add, Nat.one_mul]

theorem flushed_eq (c : Dev nD) (t : Fin cfg0.N) :
    (dats m 0 c).flushed 2 t = (win0_2.blk t).view.read (Elt Ideal) (left m c) := by
  have e0 : iblk m c 0 t = Gen.V0 m c (Proc.devRef .tc main_v27) := block_keeps _ t
  have e1 : iblk m c 1 t = Gen.V0 m c (Proc.devRef .tc main_v28) := block_scores _ t
  refine (congrArg ((cfg0.win 2).cut (grid0.coords t)) ((after0_2 m c t).trans (stored _ _))).trans ?_
  rw [e0, e1]
  exact block_left (left m c) t

/-- An entry of the result is in the step's one block, at its own place. -/
theorem in_block (i : S32x1024x1024.Idx) : ∃ t : Fin cfg0.N, (cfg0.win 2).flush t = true ∧ i ∈ ((cfg0.win 2).blk t).view.set := by
  have e : ∀ a, win0_2.index t0_0 a * win0_2.size a = 0 := by decide +kernel
  have h : (win0_2.blk t0_0).view.emb i = i := funext fun a => Fin.ext (by
    show win0_2.index t0_0 a * win0_2.size a + 1 * (i a).val = (i a).val
    rw [e, Nat.zero_add, Nat.one_mul])
  exact ⟨t0_0, flush0_2 _, h ▸ View.emb_mem_set (win0_2.blk t0_0).view i⟩

theorem region_eq (c : Dev nD) : Value.reg_main_v29 m c = kept keeps
    (scores (m ((c.tc : Thread nD τ).loc main_arg0)) (m ((c.tc : Thread nD τ).loc main_arg1)) (m ((c.tc : Thread nD τ).loc main_arg2))) := by
  rw [← given_keeps m c, ← given_scores m c]
  show _ = left m c
  exact (dats m 0 c).arrAt_eq_of_cover 2 (left m c) (fun t _ => flushed_eq m c t) in_block

/-! ## The result -/

/-- An array read as a matrix. -/
def mat {a b : Nat} (y : FVec Ideal ⟨2, ![a, b]⟩ .f32) : Mat a b := fun i j => y (ix2 i j)

theorem result_eq (c : Dev nD) (r o : Fin 1024)
    (hf : Fin3 (mat (m ((c.tc : Thread nD τ).loc main_arg0))) (mat (m ((c.tc : Thread nD τ).loc main_arg1))) (mat (m ((c.tc : Thread nD τ).loc main_arg2)))) :
    Value.res_out0 m c (ix2 r o)
      = out (mat (m ((c.tc : Thread nD τ).loc main_arg0))) (mat (m ((c.tc : Thread nD τ).loc main_arg1))) (mat (m ((c.tc : Thread nD τ).loc main_arg2)))
          (mat (m ((c.tc : Thread nD τ).loc main_arg3))) (mat (m ((c.tc : Thread nD τ).loc main_arg4))) r o := by
  have e : Value.res_out0 m c = Read.val_main_v48 (F := Ideal) (m ((c.tc : Thread nD τ).loc main_arg4)) (Value.reg_main_v29 m c) keepWord
      (heads (m ((c.tc : Thread nD τ).loc main_arg3))) := by
    refine Eq.trans ?_ ((Read.val_main_v48_eq (Value.exitV m c)).trans ?_)
    · exact (Value.fin_main_v48 m c).symm.trans (Value.tail_main_v48 (Value.exitV m c))
    · rw [Value.exit_main_arg4, Value.exit_main_v29, Value.exit_main_v22, Value.exit_main_v1]
      rfl
  refine (congrFun e (ix2 r o)).trans ?_
  rw [region_eq]
  refine (product_apply _ _ _ r o).trans ?_
  show @Eq EReal _ _
  refine Finset.sum_congr rfl fun k _ => congrArg (· * _) ?_
  refine Eq.trans ?_ (masked_context (v := mat (m ((c.tc : Thread nD τ).loc main_arg3))) hf r k)
  refine congrArg₂ Soft.attend (funext fun j => kept_apply _ _ _ _ _ _) (funext fun j => ?_)
  refine (heads_apply _ _ _ _ _).trans ?_
  refine congrArg (fun q => m ((c.tc : Thread nD τ).loc main_arg3) (ix2 j q)) (Fin.ext ?_)
  show 128 * (k.val / 128) + k.val % 128 = k.val
  omega

end Cert.Whole

end
-- ==== Proof.Algebraic.lean ====
/- At the ideal reading the kernel and the reference leave one result, where the scores' ingredients are finite. -/
module

public import proofs.«01_k».proof.Proof.KernelResult
public import proofs.«01_k».proof.Proof.RefRegion
public import proofs.«01_k».proof.Proof.Frames

@[expose] public section

noncomputable section

namespace Cert.Proof

open Idealize.ShloMosaic Idealize.ShloMosaic.ValueIdx Idealize.SL.Sem Cert.Soft Cert.Spec

/-! ## The precondition -/

theorem pre_kernel : Cert.Pre_finite_KernelIdeal.Facts := ⟨by decide, by decide⟩
theorem pre_reference : Cert.Pre_finite_ReferenceIdeal.Facts := ⟨by decide, by decide⟩

theorem inf_bits : Ideal.ofBits .f32 0x7F800000#32 = ⊤ := by
  simp [Ideal.ofBits, Ideal.ieee]

/-- A value whose magnitude is below infinity is a real. -/
theorem fin_of_abs (a : EReal) (h : Ideal.cmp .olt (max a (-a)) (Ideal.ofBits .f32 0x7F800000#32) = 1#1) : IsFin a := by
  rw [inf_bits] at h
  have h' : max a (-a) < ⊤ := by
    by_contra hn
    rw [show Ideal.cmp .olt (max a (-a)) ⊤ = BitVec.ofBool (decide (max a (-a) < ⊤)) from rfl, decide_eq_false hn] at h
    exact absurd h (by decide)
  induction a using EReal.rec with
  | bot => rw [EReal.neg_bot, max_eq_right bot_le] at h'; exact absurd h' (lt_irrefl _)
  | top => rw [max_eq_left le_top] at h'; exact absurd h' (lt_irrefl _)
  | coe r => exact ⟨r, rfl⟩

variable (m : (ℓ : Loc Cert.KernelIdeal.nD Cert.KernelIdeal.τ Cert.KernelIdeal.sig) → Buf (Elt Ideal) ℓ)

theorem pre_fin (h : Cert.Pre_KernelIdeal_finite_KernelIdeal (hPre_finite_KernelIdeal := pre_kernel) m) (d : Dev Cert.KernelIdeal.nD) :
    (∀ i, IsFin (m ((d.tc : Thread Cert.KernelIdeal.nD Cert.KernelIdeal.τ).loc Cert.KernelIdeal.main_arg0) i))
    ∧ (∀ i, IsFin (m ((d.tc : Thread Cert.KernelIdeal.nD Cert.KernelIdeal.τ).loc Cert.KernelIdeal.main_arg1) i))
    ∧ (∀ i, IsFin (m ((d.tc : Thread Cert.KernelIdeal.nD Cert.KernelIdeal.τ).loc Cert.KernelIdeal.main_arg2) i)) :=
  ⟨fun i => fin_of_abs _ (congrFun (h d).1 i), fun i => fin_of_abs _ (congrFun (h d).2.1 i), fun i => fin_of_abs _ (congrFun (h d).2.2 i)⟩

/-! ## The devices' blocks -/

/-- Each device's columns, in the whole. -/
theorem block_at (y : FVec Ideal ⟨2, ![1024, 4096]⟩ .f32) (d : Fin 4) (r t : Fin 1024) :
    Layout.block ⟨2, ![1024, 1024]⟩ ⟨2, ![1024, 4096]⟩ 1 4 d y (by decide) (ix2 r t) = y (ix2 r (Cert.Ring.loc d t)) :=
  congrArg y (funext fun a => Fin.ext (match a with
    | ⟨0, _⟩ => rfl
    | ⟨1, _⟩ => (congrArg (· + t.val) (Nat.mul_comm _ _) : d.val * 1024 + t.val = 1024 * d.val + t.val)))

/-- Every column is some device's. -/
theorem loc_onto (c : Fin 4096) : ∃ d t, Cert.Ring.loc d t = c := by
  have := c.isLt
  refine ⟨⟨c.val / 1024, by omega⟩, ⟨c.val % 1024, by omega⟩, Fin.ext ?_⟩
  show 1024 * (c.val / 1024) + c.val % 1024 = c.val
  omega

/-! ## The claim -/

theorem algebraic : Cert.algebraic_KernelIdeal_ReferenceIdeal_pre_finite_KernelIdeal (hPre_finite_KernelIdeal := pre_kernel) := by
  intro m ρ m' ρ' hpre hag
  have hf : Fin3 (Whole.mat (m' (((0 : Dev Cert.ReferenceIdeal.nD).tc : Thread Cert.ReferenceIdeal.nD Cert.ReferenceIdeal.τ).loc Cert.ReferenceIdeal.main_arg0)))
      (Whole.mat (m' (((0 : Dev Cert.ReferenceIdeal.nD).tc : Thread Cert.ReferenceIdeal.nD Cert.ReferenceIdeal.τ).loc Cert.ReferenceIdeal.main_arg1)))
      (Whole.mat (m' (((0 : Dev Cert.ReferenceIdeal.nD).tc : Thread Cert.ReferenceIdeal.nD Cert.ReferenceIdeal.τ).loc Cert.ReferenceIdeal.main_arg2))) := by
    refine ⟨fun r t => ?_, fun t c => ?_, fun j c => ?_⟩
    · have h := (pre_fin m hpre 0).1 (ix2 r t)
      rw [(hag 0).1] at h
      exact h
    · have h := (pre_fin m hpre 0).2.1 (ix2 t c)
      rw [(hag 0).2.1] at h
      exact h
    · obtain ⟨d, t, rfl⟩ := loc_onto c
      have h := (pre_fin m hpre d).2.2 (ix2 j t)
      rw [(hag d).2.2.1] at h
      exact Eq.mp (congrArg IsFin (block_at _ d j t)) h
  have hval : Cert.Ring.outAll (Cert.Ring.part m) = Cert.ReferenceIdeal.Value.res_out0 m' 0 := by
    funext i
    have e : i = ix2 (i 0) (i 1) := funext fun a => match a with | ⟨0, _⟩ => rfl | ⟨1, _⟩ => rfl
    rw [e]
    refine (Cert.Ring.result_apply (m := m) hf (fun d r t => congrFun (hag d).1 (ix2 r t)) (fun d r c => congrFun (hag d).2.1 (ix2 r c))
      (fun d r t => (congrFun (hag d).2.2.1 (ix2 r t)).trans (block_at _ d r t))
      (v := Whole.mat (m' (((0 : Dev Cert.ReferenceIdeal.nD).tc : Thread Cert.ReferenceIdeal.nD Cert.ReferenceIdeal.τ).loc Cert.ReferenceIdeal.main_arg3)))
      (fun d r t => (congrFun (hag d).2.2.2.1 (ix2 r t)).trans (block_at _ d r t))
      (wo := Whole.mat (m' (((0 : Dev Cert.ReferenceIdeal.nD).tc : Thread Cert.ReferenceIdeal.nD Cert.ReferenceIdeal.τ).loc Cert.ReferenceIdeal.main_arg4)))
      (fun d c o => congrFun (hag d).2.2.2.2 (ix2 c o)) (i 0) (i 1)).trans ?_
    exact (Whole.result_eq m' 0 (i 0) (i 1) hf).symm
  refine ⟨Cert.ReferenceIdeal.Value.res_out0 m' 0, ?_, ?_⟩
  · exact (θ_run Cert.KernelIdeal.defs _ _).mono (fun _ h c => ⟨((h.1 c).1).trans hval, (h.1 c).2⟩) (Cert.Ring.run_main (F := Ideal) m ρ)
  · exact (θ_run Cert.ReferenceIdeal.defs _ _).mono (fun _ h => h 0) (Cert.ReferenceIdeal.Value.run (F := Ideal) m' ρ')

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Frames
public import proofs.«01_k».proof.Proof.Algebraic

@[expose] public section

noncomputable section

namespace Cert.Proof

/-- Everything the statement claims. -/
theorem claim : Cert.Claim := ⟨Cert.Kernel.Gen.facts, Cert.KernelIdeal.Gen.facts, Cert.ReferenceIdeal.Gen.facts, Cert.Reference.Gen.facts,
  pre_kernel, pre_reference,
  frame_kernel, frame_kernelIdeal, fun m ρ _ => frame_kernelIdeal m ρ trivial, frame_referenceIdeal, fun m ρ _ => frame_referenceIdeal m ρ trivial,
  frame_reference, trivial, mask_named, algebraic⟩

end Cert.Proof

end
